-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_QuantiseCall (m : (ℓ : Loc Cert.QuantiseCall.nD Cert.QuantiseCall.τ Cert.QuantiseCall.sig) → Buf (Elt Bits) ℓ) : Prop :=
  True

def Pre_QuantiseReference (m : (ℓ : Loc Cert.QuantiseReference.nD Cert.QuantiseReference.τ Cert.QuantiseReference.sig) → Buf (Elt Bits) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_QuantiseCall [hQuantiseCall : Cert.QuantiseCall.Facts] : Prop :=
  ∀ (m : (ℓ : Loc Cert.QuantiseCall.nD Cert.QuantiseCall.τ Cert.QuantiseCall.sig) → Buf (Elt Bits) ℓ) (g : Dev Cert.QuantiseCall.nD → PrngReg), Pre_QuantiseCall m →
    θ_run (Cert.QuantiseCall.defs (F := Bits)) (onTc (τ := Cert.QuantiseCall.τ) (Cert.QuantiseCall.main (F := Bits))) ⟨m, fun _ => 0, g⟩ (fun r => (∀ c : Dev Cert.QuantiseCall.nD,
      r.2.mem ((c.tc : Thread Cert.QuantiseCall.nD Cert.QuantiseCall.τ).loc Cert.QuantiseCall.main_arg0) = m ((c.tc : Thread Cert.QuantiseCall.nD Cert.QuantiseCall.τ).loc Cert.QuantiseCall.main_arg0))
      ∧ r.2.sem = fun _ => 0)

def quiescent_QuantiseReference [hQuantiseReference : Cert.QuantiseReference.Facts] : Prop :=
  ∀ (m : (ℓ : Loc Cert.QuantiseReference.nD Cert.QuantiseReference.τ Cert.QuantiseReference.sig) → Buf (Elt Bits) ℓ) (g : Dev Cert.QuantiseReference.nD → PrngReg), Pre_QuantiseReference m →
    θ_run (Cert.QuantiseReference.defs (F := Bits)) (onTc (τ := Cert.QuantiseReference.τ) (Cert.QuantiseReference.main (F := Bits))) ⟨m, fun _ => 0, g⟩ (fun r => (∀ c : Dev Cert.QuantiseReference.nD,
      r.2.mem ((c.tc : Thread Cert.QuantiseReference.nD Cert.QuantiseReference.τ).loc Cert.QuantiseReference.main_arg0) = m ((c.tc : Thread Cert.QuantiseReference.nD Cert.QuantiseReference.τ).loc Cert.QuantiseReference.main_arg0))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4))
      ∧ r.2.sem = fun _ => 0)

def bitexact_Kernel_Reference_on_codes_and_scales [hKernel : Cert.Kernel.Facts] [hReference : Cert.Reference.Facts] [hOn_codes_and_scales : Cert.On_codes_and_scales.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v3)) (v1 : (c : Dev Cert.Kernel.nD) → Buf (Elt Bits) ((c.tc : Thread Cert.Kernel.nD Cert.Kernel.τ).loc Cert.Kernel.main_v0_0)) (v2 : (c : Dev Cert.Kernel.nD) → Buf (Elt Bits) ((c.tc : Thread Cert.Kernel.nD Cert.Kernel.τ).loc Cert.Kernel.main_v4)),
      θ_run (Cert.Kernel.defs (F := Bits)) (onTc (τ := Cert.Kernel.τ) (Cert.Kernel.main (F := Bits))) ⟨m, fun _ => 0, g⟩ (fun r => ∀ c : Dev Cert.Kernel.nD,
          (∀ i : (⟨3, ![2, 768, 7168]⟩ : Shape).Idx, (Cert.On_codes_and_scales.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 i = 1#1 → r.2.mem ((c.tc : Thread Cert.Kernel.nD Cert.Kernel.τ).loc Cert.Kernel.main_v3) i = v0 c i)
          ∧ (∀ i : (⟨3, ![2, 768, 16384]⟩ : Shape).Idx, (Cert.On_codes_and_scales.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 i = 1#1 → r.2.mem ((c.tc : Thread Cert.Kernel.nD Cert.Kernel.τ).loc Cert.Kernel.main_v0_0) i = v1 c i)
          ∧ (∀ i : (⟨3, ![2, 768, 1]⟩ : Shape).Idx, (Cert.On_codes_and_scales.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 i = 1#1 → r.2.mem ((c.tc : Thread Cert.Kernel.nD Cert.Kernel.τ).loc Cert.Kernel.main_v4) i = v2 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          (∀ i : (⟨3, ![2, 768, 7168]⟩ : Shape).Idx, (Cert.On_codes_and_scales.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 i = 1#1 → r.2.mem ((c.tc : Thread Cert.Reference.nD Cert.Reference.τ).loc Cert.Reference.main_v0_0) i = v0 c i)
          ∧ (∀ i : (⟨3, ![2, 768, 16384]⟩ : Shape).Idx, (Cert.On_codes_and_scales.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 i = 1#1 → r.2.mem ((c.tc : Thread Cert.Reference.nD Cert.Reference.τ).loc Cert.Reference.main_v0_1) i = v1 c i)
          ∧ (∀ i : (⟨3, ![2, 768, 1]⟩ : Shape).Idx, (Cert.On_codes_and_scales.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 i = 1#1 → r.2.mem ((c.tc : Thread Cert.Reference.nD Cert.Reference.τ).loc Cert.Reference.main_v0_2) i = v2 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def bitexact_QuantiseCall_QuantiseReference [hQuantiseCall : Cert.QuantiseCall.Facts] [hQuantiseReference : Cert.QuantiseReference.Facts] : Prop :=
  ∀ (m : (ℓ : Loc Cert.QuantiseCall.nD Cert.QuantiseCall.τ Cert.QuantiseCall.sig) → Buf (Elt Bits) ℓ) (g : Dev Cert.QuantiseCall.nD → PrngReg)
    (m' : (ℓ : Loc Cert.QuantiseReference.nD Cert.QuantiseReference.τ Cert.QuantiseReference.sig) → Buf (Elt Bits) ℓ) (g' : Dev Cert.QuantiseReference.nD → PrngReg), Pre_QuantiseCall m →
    (∀ c : Dev Cert.QuantiseCall.nD,
      m' ((c.tc : Thread Cert.QuantiseReference.nD Cert.QuantiseReference.τ).loc Cert.QuantiseReference.main_arg0) = m ((c.tc : Thread Cert.QuantiseCall.nD Cert.QuantiseCall.τ).loc Cert.QuantiseCall.main_arg0)) →
    ∃ (v0 : (c : Dev Cert.QuantiseCall.nD) → Buf (Elt Bits) ((c.tc : Thread Cert.QuantiseCall.nD Cert.QuantiseCall.τ).loc Cert.QuantiseCall.main_v0_0)) (v1 : (c : Dev Cert.QuantiseCall.nD) → Buf (Elt Bits) ((c.tc : Thread Cert.QuantiseCall.nD Cert.QuantiseCall.τ).loc Cert.QuantiseCall.main_v0_1)) (v2 : (c : Dev Cert.QuantiseCall.nD) → Buf (Elt Bits) ((c.tc : Thread Cert.QuantiseCall.nD Cert.QuantiseCall.τ).loc Cert.QuantiseCall.main_v0_2)),
      θ_run (Cert.QuantiseCall.defs (F := Bits)) (onTc (τ := Cert.QuantiseCall.τ) (Cert.QuantiseCall.main (F := Bits))) ⟨m, fun _ => 0, g⟩ (fun r => ∀ c : Dev Cert.QuantiseCall.nD,
          r.2.mem ((c.tc : Thread Cert.QuantiseCall.nD Cert.QuantiseCall.τ).loc Cert.QuantiseCall.main_v0_0) = v0 c
          ∧ r.2.mem ((c.tc : Thread Cert.QuantiseCall.nD Cert.QuantiseCall.τ).loc Cert.QuantiseCall.main_v0_1) = v1 c
          ∧ r.2.mem ((c.tc : Thread Cert.QuantiseCall.nD Cert.QuantiseCall.τ).loc Cert.QuantiseCall.main_v0_2) = v2 c
          ∧ r.2.mem ((c.tc : Thread Cert.QuantiseCall.nD Cert.QuantiseCall.τ).loc Cert.QuantiseCall.main_arg0) = m ((c.tc : Thread Cert.QuantiseCall.nD Cert.QuantiseCall.τ).loc Cert.QuantiseCall.main_arg0))
      ∧ θ_run (Cert.QuantiseReference.defs (F := Bits)) (onTc (τ := Cert.QuantiseReference.τ) (Cert.QuantiseReference.main (F := Bits))) ⟨m', fun _ => 0, g'⟩ (fun r => ∀ c : Dev Cert.QuantiseReference.nD,
          r.2.mem ((c.tc : Thread Cert.QuantiseReference.nD Cert.QuantiseReference.τ).loc Cert.QuantiseReference.main_v0_0) = v0 c
          ∧ r.2.mem ((c.tc : Thread Cert.QuantiseReference.nD Cert.QuantiseReference.τ).loc Cert.QuantiseReference.main_v0_1) = v1 c
          ∧ r.2.mem ((c.tc : Thread Cert.QuantiseReference.nD Cert.QuantiseReference.τ).loc Cert.QuantiseReference.main_v0_2) = v2 c
          ∧ r.2.mem ((c.tc : Thread Cert.QuantiseReference.nD Cert.QuantiseReference.τ).loc Cert.QuantiseReference.main_arg0) = m' ((c.tc : Thread Cert.QuantiseReference.nD Cert.QuantiseReference.τ).loc Cert.QuantiseReference.main_arg0))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)) →
    ∃ (v0 : (c : Dev Cert.ProjectIdeal.nD) → Buf (Elt Ideal) ((c.tc : Thread Cert.ProjectIdeal.nD Cert.ProjectIdeal.τ).loc Cert.ProjectIdeal.main_v2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v2) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v0) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4))

def Claim : Prop :=
  ∃ (hKernel : Cert.Kernel.Facts) (hReference : Cert.Reference.Facts) (hQuantiseCall : Cert.QuantiseCall.Facts) (hQuantiseReference : Cert.QuantiseReference.Facts) (hProject : Cert.Project.Facts) (hProjectIdeal : Cert.ProjectIdeal.Facts) (hProjectReferenceIdeal : Cert.ProjectReferenceIdeal.Facts) (hOn_codes_and_scales : Cert.On_codes_and_scales.Facts),
    quiescent_Kernel (hKernel := hKernel)
    ∧ quiescent_Reference (hReference := hReference)
    ∧ quiescent_QuantiseCall (hQuantiseCall := hQuantiseCall)
    ∧ quiescent_QuantiseReference (hQuantiseReference := hQuantiseReference)
    ∧ quiescent_Project (hProject := hProject)
    ∧ quiescent_ProjectIdeal (hProjectIdeal := hProjectIdeal)
    ∧ quiescent_ProjectReferenceIdeal (hProjectReferenceIdeal := hProjectReferenceIdeal)
    ∧ bitexact_Kernel_Reference_on_codes_and_scales (hKernel := hKernel) (hReference := hReference) (hOn_codes_and_scales := hOn_codes_and_scales)
    ∧ bitexact_QuantiseCall_QuantiseReference (hQuantiseCall := hQuantiseCall) (hQuantiseReference := hQuantiseReference)
    ∧ preserves_Project_ProjectIdeal
    ∧ algebraic_ProjectIdeal_ProjectReferenceIdeal (hProjectIdeal := hProjectIdeal) (hProjectReferenceIdeal := hProjectReferenceIdeal)
-- ==== On_codes_and_scales.lean ====
abbrev S2x768x16384 : Shape := ⟨3, ![2, 768, 16384]⟩
abbrev S16384x7168 : Shape := ⟨2, ![16384, 7168]⟩
abbrev S7168 : Shape := ⟨1, ![7168]⟩
abbrev S2x768x7168 : Shape := ⟨3, ![2, 768, 7168]⟩
abbrev S_ : Shape := ⟨0, ![]⟩
abbrev S2x768x1 : Shape := ⟨3, ![2, 768, 1]⟩

class Facts : Prop where
  bcast_S_S2x768x7168 : S_.BroadcastsInDim S2x768x7168 (![] : Fin 0 → Fin S2x768x7168.rank)
  bcast_S_S2x768x16384 : S_.BroadcastsInDim S2x768x16384 (![] : Fin 0 → Fin S2x768x16384.rank)
  bcast_S_S2x768x1 : S_.BroadcastsInDim S2x768x1 (![] : Fin 0 → Fin S2x768x1.rank)

variable [Facts]

def fn {F : FTy → Type} [FloatOps F] (main_arg0 : FVec F S2x768x16384 .bf16) (main_arg1 : FVec F S16384x7168 .fp8e4m3) (main_arg2 : FVec F S7168 .f32) (main_arg3 : FVec F S2x768x7168 .bf16) : IVec S2x768x7168 1 × IVec S2x768x16384 1 × IVec S2x768x1 1 :=
  let main_c : IVec S_ 1 := constantI S_ 1 0#1
  let main_v0 : IVec S2x768x7168 1 := broadcastInDim S2x768x7168 ![] bcast_S_S2x768x7168 main_c
  let main_c_0 : IVec S_ 1 := constantI S_ 1 1#1
  let main_v1 : IVec S2x768x16384 1 := broadcastInDim S2x768x16384 ![] bcast_S_S2x768x16384 main_c_0
  let main_c_1 : IVec S_ 1 := constantI S_ 1 1#1
  let main_v2 : IVec S2x768x1 1 := broadcastInDim S2x768x1 ![] bcast_S_S2x768x1 main_c_1
  (main_v0, main_v1, main_v2)
-- ==== Kernel.lean ====
abbrev S2x768x16384 : Shape := ⟨3, ![2, 768, 16384]⟩
abbrev S16384x7168 : Shape := ⟨2, ![16384, 7168]⟩
abbrev S7168 : Shape := ⟨1, ![7168]⟩
abbrev S2x768x7168 : Shape := ⟨3, ![2, 768, 7168]⟩
abbrev S2x1x768 : Shape := ⟨3, ![2, 1, 768]⟩
abbrev S2x768x1 : Shape := ⟨3, ![2, 768, 1]⟩
abbrev S1x128x16384 : Shape := ⟨3, ![1, 128, 16384]⟩
abbrev S1x1x128 : Shape := ⟨3, ![1, 1, 128]⟩
abbrev S1x128x1 : Shape := ⟨3, ![1, 128, 1]⟩
abbrev S128x16384 : Shape := ⟨2, ![128, 16384]⟩
abbrev S128 : Shape := ⟨1, ![128]⟩
abbrev S128x1 : Shape := ⟨2, ![128, 1]⟩
abbrev S1x128 : Shape := ⟨2, ![1, 128]⟩
abbrev S1x7168 : Shape := ⟨2, ![1, 7168]⟩
abbrev S192x8x7168 : Shape := ⟨3, ![192, 8, 7168]⟩
abbrev S1x768x16384 : Shape := ⟨3, ![1, 768, 16384]⟩
abbrev S16384x512 : Shape := ⟨2, ![16384, 512]⟩
abbrev S1x768x1 : Shape := ⟨3, ![1, 768, 1]⟩
abbrev S1x512 : Shape := ⟨2, ![1, 512]⟩
abbrev S1x768x512 : Shape := ⟨3, ![1, 768, 512]⟩
abbrev S96x8x512 : Shape := ⟨3, ![96, 8, 512]⟩
abbrev S768x16384 : Shape := ⟨2, ![768, 16384]⟩
abbrev S768x512 : Shape := ⟨2, ![768, 512]⟩
abbrev S768x1 : Shape := ⟨2, ![768, 1]⟩

abbrev nBuf : Space → Nat
  | .hbm => 11
  | .vmem => 20
  | .smem => 0
  | _ => 0

abbrev bufTy : (tb : Table) → Fin (tcTables nBuf tb) → BufTy
  | .hbm, ⟨0, _⟩ => ⟨S2x768x16384, .bf16⟩
  | .hbm, ⟨1, _⟩ => ⟨S16384x7168, .fp8e4m3⟩
  | .hbm, ⟨2, _⟩ => ⟨S7168, .f32⟩
  | .hbm, ⟨3, _⟩ => ⟨S2x768x7168, .bf16⟩
  | .hbm, ⟨4, _⟩ => ⟨S2x768x16384, .fp8e4m3⟩
  | .hbm, ⟨5, _⟩ => ⟨S2x1x768, .f32⟩
  | .hbm, ⟨6, _⟩ => ⟨S2x768x1, .f32⟩
  | .hbm, ⟨7, _⟩ => ⟨S1x7168, .f32⟩
  | .hbm, ⟨8, _⟩ => ⟨S192x8x7168, .bf16⟩
  | .hbm, ⟨9, _⟩ => ⟨S2x768x7168, .bf16⟩
  | .hbm, ⟨10, _⟩ => ⟨S2x768x1, .f32⟩
  | .local _ .vmem, ⟨0, _⟩ => ⟨S1x128x16384, .bf16⟩
  | .local _ .vmem, ⟨1, _⟩ => ⟨S1x128x16384, .bf16⟩
  | .local _ .vmem, ⟨2, _⟩ => ⟨S1x128x16384, .fp8e4m3⟩
  | .local _ .vmem, ⟨3, _⟩ => ⟨S1x128x16384, .fp8e4m3⟩
  | .local _ .vmem, ⟨4, _⟩ => ⟨S1x1x128, .f32⟩
  | .local _ .vmem, ⟨5, _⟩ => ⟨S1x1x128, .f32⟩
  | .local _ .vmem, ⟨6, _⟩ => ⟨S1x128x1, .f32⟩
  | .local _ .vmem, ⟨7, _⟩ => ⟨S1x128x1, .f32⟩
  | .local _ .vmem, ⟨8, _⟩ => ⟨S1x768x16384, .fp8e4m3⟩
  | .local _ .vmem, ⟨9, _⟩ => ⟨S1x768x16384, .fp8e4m3⟩
  | .local _ .vmem, ⟨10, _⟩ => ⟨S16384x512, .fp8e4m3⟩
  | .local _ .vmem, ⟨11, _⟩ => ⟨S16384x512, .fp8e4m3⟩
  | .local _ .vmem, ⟨12, _⟩ => ⟨S1x768x1, .f32⟩
  | .local _ .vmem, ⟨13, _⟩ => ⟨S1x768x1, .f32⟩
  | .local _ .vmem, ⟨14, _⟩ => ⟨S1x512, .f32⟩
  | .local _ .vmem, ⟨15, _⟩ => ⟨S1x512, .f32⟩
  | .local _ .vmem, ⟨16, _⟩ => ⟨S1x768x512, .bf16⟩
  | .local _ .vmem, ⟨17, _⟩ => ⟨S1x768x512, .bf16⟩
  | .local _ .vmem, ⟨18, _⟩ => ⟨S96x8x512, .bf16⟩
  | .local _ .vmem, ⟨19, _⟩ => ⟨S96x8x512, .bf16⟩
  | _, _ => ⟨S2x768x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [BitOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 14], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x768x16384 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16384x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x768x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x768x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S96x8x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference.lean ====
abbrev S2x768x16384 : Shape := ⟨3, ![2, 768, 16384]⟩
abbrev S16384x7168 : Shape := ⟨2, ![16384, 7168]⟩
abbrev S7168 : Shape := ⟨1, ![7168]⟩
abbrev S2x768x7168 : Shape := ⟨3, ![2, 768, 7168]⟩
abbrev S2x768x1 : Shape := ⟨3, ![2, 768, 1]⟩
abbrev S2x768 : Shape := ⟨2, ![2, 768]⟩
abbrev S1x1x7168 : Shape := ⟨3, ![1, 1, 7168]⟩

abbrev nBuf : Space → Nat
  | .hbm => 7
  | .vmem => 7
  | .smem => 0
  | _ => 0

abbrev bufTy : (tb : Table) → Fin (tcTables nBuf tb) → BufTy
  | .hbm, ⟨0, _⟩ => ⟨S2x768x16384, .bf16⟩
  | .hbm, ⟨1, _⟩ => ⟨S16384x7168, .fp8e4m3⟩
  | .hbm, ⟨2, _⟩ => ⟨S7168, .f32⟩
  | .hbm, ⟨3, _⟩ => ⟨S2x768x7168, .bf16⟩
  | .hbm, ⟨4, _⟩ => ⟨S2x768x7168, .bf16⟩
  | .hbm, ⟨5, _⟩ => ⟨S2x768x16384, .fp8e4m3⟩
  | .hbm, ⟨6, _⟩ => ⟨S2x768x1, .f32⟩
  | .local _ .vmem, ⟨0, _⟩ => ⟨S2x768x16384, .bf16⟩
  | .local _ .vmem, ⟨1, _⟩ => ⟨S16384x7168, .fp8e4m3⟩
  | .local _ .vmem, ⟨2, _⟩ => ⟨S7168, .f32⟩
  | .local _ .vmem, ⟨3, _⟩ => ⟨S2x768x7168, .bf16⟩
  | .local _ .vmem, ⟨4, _⟩ => ⟨S2x768x7168, .bf16⟩
  | .local _ .vmem, ⟨5, _⟩ => ⟨S2x768x16384, .fp8e4m3⟩
  | .local _ .vmem, ⟨6, _⟩ => ⟨S2x768x1, .f32⟩
  | _, _ => ⟨S2x768x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

abbrev stage0_0 : Fin 1 → Memref sig .tc .vmem S2x768x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x16384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== QuantiseCall.lean ====
abbrev S2x768x16384 : Shape := ⟨3, ![2, 768, 16384]⟩
abbrev S2x1x768 : Shape := ⟨3, ![2, 1, 768]⟩
abbrev S2x768x1 : Shape := ⟨3, ![2, 768, 1]⟩
abbrev S1x128x16384 : Shape := ⟨3, ![1, 128, 16384]⟩
abbrev S1x1x128 : Shape := ⟨3, ![1, 1, 128]⟩
abbrev S1x128x1 : Shape := ⟨3, ![1, 128, 1]⟩
abbrev S128x16384 : Shape := ⟨2, ![128, 16384]⟩
abbrev S128 : Shape := ⟨1, ![128]⟩
abbrev S128x1 : Shape := ⟨2, ![128, 1]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x768x16384, .bf16⟩
  | .hbm, ⟨1, _⟩ => ⟨S2x768x16384, .fp8e4m3⟩
  | .hbm, ⟨2, _⟩ => ⟨S2x1x768, .f32⟩
  | .hbm, ⟨3, _⟩ => ⟨S2x768x1, .f32⟩
  | .local _ .vmem, ⟨0, _⟩ => ⟨S1x128x16384, .bf16⟩
  | .local _ .vmem, ⟨1, _⟩ => ⟨S1x128x16384, .bf16⟩
  | .local _ .vmem, ⟨2, _⟩ => ⟨S1x128x16384, .fp8e4m3⟩
  | .local _ .vmem, ⟨3, _⟩ => ⟨S1x128x16384, .fp8e4m3⟩
  | .local _ .vmem, ⟨4, _⟩ => ⟨S1x1x128, .f32⟩
  | .local _ .vmem, ⟨5, _⟩ => ⟨S1x1x128, .f32⟩
  | .local _ .vmem, ⟨6, _⟩ => ⟨S1x128x1, .f32⟩
  | .local _ .vmem, ⟨7, _⟩ => ⟨S1x128x1, .f32⟩
  | _, _ => ⟨S2x768x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QuantiseReference.lean ====
abbrev S2x768x16384 : Shape := ⟨3, ![2, 768, 16384]⟩
abbrev S2x1x768 : Shape := ⟨3, ![2, 1, 768]⟩
abbrev S2x768x1 : Shape := ⟨3, ![2, 768, 1]⟩
abbrev S2x768 : Shape := ⟨2, ![2, 768]⟩

abbrev nBuf : Space → Nat
  | .hbm => 4
  | .vmem => 4
  | .smem => 0
  | _ => 0

abbrev bufTy : (tb : Table) → Fin (tcTables nBuf tb) → BufTy
  | .hbm, ⟨0, _⟩ => ⟨S2x768x16384, .bf16⟩
  | .hbm, ⟨1, _⟩ => ⟨S2x768x16384, .fp8e4m3⟩
  | .hbm, ⟨2, _⟩ => ⟨S2x1x768, .f32⟩
  | .hbm, ⟨3, _⟩ => ⟨S2x768x1, .f32⟩
  | .local _ .vmem, ⟨0, _⟩ => ⟨S2x768x16384, .bf16⟩
  | .local _ .vmem, ⟨1, _⟩ => ⟨S2x768x16384, .fp8e4m3⟩
  | .local _ .vmem, ⟨2, _⟩ => ⟨S2x1x768, .f32⟩
  | .local _ .vmem, ⟨3, _⟩ => ⟨S2x768x1, .f32⟩
  | _, _ => ⟨S2x768x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

abbrev stage0_0 : Fin 1 → Memref sig .tc .vmem S2x768x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Project.lean ====
abbrev S2x768x16384 : Shape := ⟨3, ![2, 768, 16384]⟩
abbrev S16384x7168 : Shape := ⟨2, ![16384, 7168]⟩
abbrev S2x768x1 : Shape := ⟨3, ![2, 768, 1]⟩
abbrev S7168 : Shape := ⟨1, ![7168]⟩
abbrev S2x768x7168 : Shape := ⟨3, ![2, 768, 7168]⟩
abbrev S1x7168 : Shape := ⟨2, ![1, 7168]⟩
abbrev S192x8x7168 : Shape := ⟨3, ![192, 8, 7168]⟩
abbrev S1x768x16384 : Shape := ⟨3, ![1, 768, 16384]⟩
abbrev S16384x512 : Shape := ⟨2, ![16384, 512]⟩
abbrev S1x768x1 : Shape := ⟨3, ![1, 768, 1]⟩
abbrev S1x512 : Shape := ⟨2, ![1, 512]⟩
abbrev S1x768x512 : Shape := ⟨3, ![1, 768, 512]⟩
abbrev S96x8x512 : Shape := ⟨3, ![96, 8, 512]⟩
abbrev S768x16384 : Shape := ⟨2, ![768, 16384]⟩
abbrev S768x512 : Shape := ⟨2, ![768, 512]⟩
abbrev S768x1 : Shape := ⟨2, ![768, 1]⟩

abbrev nBuf : Space → Nat
  | .hbm => 8
  | .vmem => 12
  | .smem => 0
  | _ => 0

abbrev bufTy : (tb : Table) → Fin (tcTables nBuf tb) → BufTy
  | .hbm, ⟨0, _⟩ => ⟨S2x768x16384, .fp8e4m3⟩
  | .hbm, ⟨1, _⟩ => ⟨S16384x7168, .fp8e4m3⟩
  | .hbm, ⟨2, _⟩ => ⟨S2x768x1, .f32⟩
  | .hbm, ⟨3, _⟩ => ⟨S7168, .f32⟩
  | .hbm, ⟨4, _⟩ => ⟨S2x768x7168, .bf16⟩
  | .hbm, ⟨5, _⟩ => ⟨S1x7168, .f32⟩
  | .hbm, ⟨6, _⟩ => ⟨S192x8x7168, .bf16⟩
  | .hbm, ⟨7, _⟩ => ⟨S2x768x7168, .bf16⟩
  | .local _ .vmem, ⟨0, _⟩ => ⟨S1x768x16384, .fp8e4m3⟩
  | .local _ .vmem, ⟨1, _⟩ => ⟨S1x768x16384, .fp8e4m3⟩
  | .local _ .vmem, ⟨2, _⟩ => ⟨S16384x512, .fp8e4m3⟩
  | .local _ .vmem, ⟨3, _⟩ => ⟨S16384x512, .fp8e4m3⟩
  | .local _ .vmem, ⟨4, _⟩ => ⟨S1x768x1, .f32⟩
  | .local _ .vmem, ⟨5, _⟩ => ⟨S1x768x1, .f32⟩
  | .local _ .vmem, ⟨6, _⟩ => ⟨S1x512, .f32⟩
  | .local _ .vmem, ⟨7, _⟩ => ⟨S1x512, .f32⟩
  | .local _ .vmem, ⟨8, _⟩ => ⟨S1x768x512, .bf16⟩
  | .local _ .vmem, ⟨9, _⟩ => ⟨S1x768x512, .bf16⟩
  | .local _ .vmem, ⟨10, _⟩ => ⟨S96x8x512, .bf16⟩
  | .local _ .vmem, ⟨11, _⟩ => ⟨S96x8x512, .bf16⟩
  | _, _ => ⟨S2x768x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 14], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x768x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16384x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S96x8x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjectReferenceIdeal.lean ====
abbrev S2x768x16384 : Shape := ⟨3, ![2, 768, 16384]⟩
abbrev S16384x7168 : Shape := ⟨2, ![16384, 7168]⟩
abbrev S2x768x1 : Shape := ⟨3, ![2, 768, 1]⟩
abbrev S7168 : Shape := ⟨1, ![7168]⟩
abbrev S2x768x7168 : Shape := ⟨3, ![2, 768, 7168]⟩
abbrev S1x1x7168 : Shape := ⟨3, ![1, 1, 7168]⟩

abbrev nBuf : Space → Nat
  | .hbm => 6
  | .vmem => 6
  | .smem => 0
  | _ => 0

abbrev bufTy : (tb : Table) → Fin (tcTables nBuf tb) → BufTy
  | .hbm, ⟨0, _⟩ => ⟨S2x768x16384, .fp8e4m3⟩
  | .hbm, ⟨1, _⟩ => ⟨S16384x7168, .fp8e4m3⟩
  | .hbm, ⟨2, _⟩ => ⟨S2x768x1, .f32⟩
  | .hbm, ⟨3, _⟩ => ⟨S7168, .f32⟩
  | .hbm, ⟨4, _⟩ => ⟨S2x768x7168, .bf16⟩
  | .hbm, ⟨5, _⟩ => ⟨S2x768x7168, .bf16⟩
  | .local _ .vmem, ⟨0, _⟩ => ⟨S2x768x16384, .fp8e4m3⟩
  | .local _ .vmem, ⟨1, _⟩ => ⟨S16384x7168, .fp8e4m3⟩
  | .local _ .vmem, ⟨2, _⟩ => ⟨S2x768x1, .f32⟩
  | .local _ .vmem, ⟨3, _⟩ => ⟨S7168, .f32⟩
  | .local _ .vmem, ⟨4, _⟩ => ⟨S2x768x7168, .bf16⟩
  | .local _ .vmem, ⟨5, _⟩ => ⟨S2x768x7168, .bf16⟩
  | _, _ => ⟨S2x768x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x768x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.ReferenceValue.lean ====
/- The reference's three results after its run, each as one function of the argument arrays: the reference has one grid
   point and every block is a whole array, so each result array is what the body stores, applied to the arguments. Copied
   from the generated value module of the reference, without its index-by-index restatement of the codes. -/
module

public import proofs.«01_k».proof.Proof.Gen.Reference.Frame
public import Idealize.ShloMosaic.Lib.Pipeline.Value

@[expose] public section

noncomputable section

namespace Cert.ReferenceValue

open Cert.Reference Cert.Reference.Gen Idealize.ShloMosaic Idealize.ShloMosaic.TcCoe Idealize.SL.Sem
open Idealize.ShloMosaic.Pipeline (Dat)

variable {F : FTy → Type} [BitOps F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S2x768x7168.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S2x768x16384.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S2x768x1.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x768x16384.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 768 + 1 * (j 1).val = (j 1).val; omega
  | ⟨2, _⟩ => show win0_0.index t (2 : Fin 3) * 16384 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S16384x7168.Idx) : ((cfg0.win 1).blk t).view.emb j = j := by
  obtain ⟨e0, e1⟩ := idx_zero1 t
  funext a; apply Fin.ext
  match a with
  | ⟨0, _⟩ => show win0_1.index t (0 : Fin 2) * 16384 + 1 * (j 0).val = (j 0).val; omega
  | ⟨1, _⟩ => show win0_1.index t (1 : Fin 2) * 7168 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S7168.Idx) : ((cfg0.win 2).blk t).view.emb j = j := by
  have e0 := idx_zero2 t
  funext a; apply Fin.ext
  match a with
  | ⟨0, _⟩ => show win0_2.index t (0 : Fin 1) * 7168 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S2x768x7168.Idx) : ((cfg0.win 3).blk t).view.emb j = j := by
  obtain ⟨e0, e1, e2⟩ := idx_zero3 t
  funext a; apply Fin.ext
  match a with
  | ⟨0, _⟩ => show win0_3.index t (0 : Fin 3) * 2 + 1 * (j 0).val = (j 0).val; omega
  | ⟨1, _⟩ => show win0_3.index t (1 : Fin 3) * 768 + 1 * (j 1).val = (j 1).val; omega
  | ⟨2, _⟩ => show win0_3.index t (2 : Fin 3) * 7168 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S2x768x7168.Idx) : ((cfg0.win 4).blk t).view.emb j = j := by
  obtain ⟨e0, e1, e2⟩ := idx_zero4 t
  funext a; apply Fin.ext
  match a with
  | ⟨0, _⟩ => show win0_4.index t (0 : Fin 3) * 2 + 1 * (j 0).val = (j 0).val; omega
  | ⟨1, _⟩ => show win0_4.index t (1 : Fin 3) * 768 + 1 * (j 1).val = (j 1).val; omega
  | ⟨2, _⟩ => show win0_4.index t (2 : Fin 3) * 7168 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S2x768x16384.Idx) : ((cfg0.win 5).blk t).view.emb j = j := by
  obtain ⟨e0, e1, e2⟩ := idx_zero5 t
  funext a; apply Fin.ext
  match a with
  | ⟨0, _⟩ => show win0_5.index t (0 : Fin 3) * 2 + 1 * (j 0).val = (j 0).val; omega
  | ⟨1, _⟩ => show win0_5.index t (1 : Fin 3) * 768 + 1 * (j 1).val = (j 1).val; omega
  | ⟨2, _⟩ => show win0_5.index t (2 : Fin 3) * 16384 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S2x768x1.Idx) : ((cfg0.win 6).blk t).view.emb j = j := by
  obtain ⟨e0, e1, e2⟩ := idx_zero6 t
  funext a; apply Fin.ext
  match a with
  | ⟨0, _⟩ => show win0_6.index t (0 : Fin 3) * 2 + 1 * (j 0).val = (j 0).val; omega
  | ⟨1, _⟩ => show win0_6.index t (1 : Fin 3) * 768 + 1 * (j 1).val = (j 1).val; omega
  | ⟨2, _⟩ => show win0_6.index t (2 : Fin 3) * 1 + 1 * (j 2).val = (j 2).val; omega

/-! ### Output window 4: the array after the run -/

/-- What the window's array ends holding: `out0_4` applied to the argument arrays in place of the input blocks (a value that the
    frame states apart, `kK_payN a…`, keeps its loads inside its own definition). -/
abbrev G4 (a0 : Vec F S2x768x16384 .bf16) (a1 : Vec F S16384x7168 .fp8e4m3) (a2 : Vec F S7168 .f32) (a3 : Vec F S2x768x7168 .bf16) : Vec F S2x768x7168 .bf16 :=
  k0_pay2 (k0_pay21 a0 a1 a2 a3) (k0_pay25 a0 a1 a2 a3) (k0_pay26 a0 a1 a2 a3) (k0_pay27 a0 a1 a2 a3) (k0_pay28 a0 a1 a2 a3) (k0_pay29 a0 a1 a2 a3) (k0_pay30 a0 a1 a2 a3) (k0_pay31 a0 a1 a2 a3) a1 a2 a3

/-- A load of the whole of a block reads the block, and the one store through the whole rectangle leaves its payload. -/
theorem out4_eq (a0 : Vec F S2x768x16384 .bf16) (a1 : Vec F S16384x7168 .fp8e4m3) (a2 : Vec F S7168 .f32) (a3 : Vec F S2x768x7168 .bf16) : out0_4 (F := F) a0 a1 a2 a3 = G4 a0 a1 a2 a3 := by
  unfold out0_4
  rw [View.canon_unit_zero hz4, View.ld_unit_zero (S := S16384x7168) hz1 _ a1, View.ld_unit_zero (S := S7168) hz2 _ a2, View.ld_unit_zero (S := S2x768x7168) hz3 _ a3]

/-- Cutting the point's block out of `X` and reading `X` through the block's view give the same. -/
theorem cut4_eq (t : Fin cfg0.N) (X : Vec F S2x768x7168 .bf16) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S2x768x7168.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S2x768x16384 .bf16) (a1 : Vec F S16384x7168 .fp8e4m3) (a2 : Vec F S7168 .f32) (a3 : Vec F S2x768x7168 .bf16) : Vec F S2x768x16384 .fp8e4m3 :=
  k0_pay1 (k0_pay21 a0 a1 a2 a3) (k0_pay26 a0 a1 a2 a3) (k0_pay27 a0 a1 a2 a3) (k0_pay28 a0 a1 a2 a3) (k0_pay29 a0 a1 a2 a3) (k0_pay30 a0 a1 a2 a3) (k0_pay31 a0 a1 a2 a3)

/-- The one store through the whole rectangle leaves its payload. -/
theorem out5_eq (a0 : Vec F S2x768x16384 .bf16) (a1 : Vec F S16384x7168 .fp8e4m3) (a2 : Vec F S7168 .f32) (a3 : Vec F S2x768x7168 .bf16) : out0_5 (F := F) a0 a1 a2 a3 = G5 a0 a1 a2 a3 := by
  unfold out0_5
  rw [View.canon_unit_zero hz5]

/-- Cutting the point's block out of `X` and reading `X` through the block's view give the same. -/
theorem cut5_eq (t : Fin cfg0.N) (X : Vec F S2x768x16384 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S2x768x16384.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S2x768x16384 .bf16) (a1 : Vec F S16384x7168 .fp8e4m3) (a2 : Vec F S7168 .f32) (a3 : Vec F S2x768x7168 .bf16) : Vec F S2x768x1 .f32 :=
  k0_pay25 a0 a1 a2 a3

/-- The one store through the whole rectangle leaves its payload. -/
theorem out6_eq (a0 : Vec F S2x768x16384 .bf16) (a1 : Vec F S16384x7168 .fp8e4m3) (a2 : Vec F S7168 .f32) (a3 : Vec F S2x768x7168 .bf16) : out0_6 (F := F) a0 a1 a2 a3 = G6 a0 a1 a2 a3 := by
  unfold out0_6
  rw [View.canon_unit_zero hz6]

/-- Cutting the point's block out of `X` and reading `X` through the block's view give the same. -/
theorem cut6_eq (t : Fin cfg0.N) (X : Vec F S2x768x1 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S2x768x1.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      kept_main_arg0 m r h c,
      kept_main_arg1 m r h c,
      kept_main_arg2 m r h c,
      kept_main_arg3 m r h c⟩)
    (run_main m ρ)

end Cert.ReferenceValue

end
-- ==== Proof.Quantise.lean ====
/- The quantiser's arithmetic over bits. The chain of bit operations that makes a row's scale out of its largest magnitude is
   restated once at any shape; the kernel's chain on a block and the reference's on the whole array are that restatement, and
   every stage of it depends on its row alone. -/
module

public import proofs.«01_k».proof.Proof.Gen.Kernel.Frame
public import proofs.«01_k».proof.Proof.ReferenceValue
public import Idealize.ShloMosaic.Lib.Pipeline.ValueKit
public import Idealize.ShloMosaic.PureOps.BitExact.Laws

@[expose] public section

set_option maxRecDepth 16384

noncomputable section

open Idealize.ShloMosaic Idealize.ShloMosaic.TcCoe

namespace Cert.Quantise

open Cert.Kernel (S1x128x16384 S128x16384 S128x1 S1x128x1 S1x1x128)
open Cert.Reference (S2x768x16384 S2x768x1)

/-! ## The elementwise stages, at any shape -/

/-- A float's bits with every denormal replaced by the zero of its sign. -/
def flushed {s : Shape} (a : FVec Bits s .f32) : IVec s 32 :=
  let b := bitcastToInt a
  bitcastToInt (bitcastToFloat (F := Bits) .f32 (select (cmpi .eq (andi b (broadcast s 2139095040#32)) (broadcast s 0#32))
    (andi b (broadcast s 2147483648#32)) b))

/-- The exponent field of a float's bits. -/
def field {s : Shape} (b : IVec s 32) : IVec s 32 :=
  andi (shrui b (broadcast s 23#32)) (broadcast s 255#32)

/-- The power of two a row is scaled by, as an exponent: the exponent of `a / 448` in the convention where the mantissa
    lies in `[1/2, 1)`, zero for a zero row. -/
def exponent {s : Shape} (a : FVec Bits s .f32) : IVec s 32 :=
  let e := field (flushed (mulf a (broadcast s (Scalar.ofBits (F := Bits) .f32 0x3B124925#32))))
  select (cmpf .oeq a (broadcast s (Scalar.ofBits (F := Bits) .f32 0x00000000#32))) (broadcast s 0#32)
    (select (ori (cmpi .eq e (broadcast s 255#32)) (cmpi .eq e (broadcast s 0#32))) (broadcast s 0#32)
      (subi e (broadcast s 126#32)))

/-- The float one, its denormals flushed, as bits. -/
def one (s : Shape) : IVec s 32 := flushed (broadcast s (Scalar.ofBits (F := Bits) .f32 0x3F800000#32))

/-- The exponent field of one moved up by `e`, `e` kept within `[-512, 512]`. -/
def moved {s : Shape} (e : IVec s 32) : IVec s 32 :=
  addi (field (one s)) (minsi (maxsi e (broadcast s 4294966784#32)) (broadcast s 512#32))

/-- Two to the power `e`: one with its exponent field moved. -/
def twoTo {s : Shape} (e : IVec s 32) : FVec Bits s .f32 :=
  let sign := andi (one s) (broadcast s 2147483648#32)
  bitcastToFloat .f32 (select (cmpi .eq (field (one s)) (broadcast s 255#32)) (one s)
    (select (cmpi .eq (field (one s)) (broadcast s 0#32)) sign
      (select (cmpi .sle (moved e) (broadcast s 0#32)) sign
        (select (cmpi .sge (moved e) (broadcast s 255#32)) (ori sign (broadcast s 2139095040#32))
          (ori (ori sign (shli (moved e) (broadcast s 23#32))) (andi (one s) (broadcast s 8388607#32)))))))

/-- The scale of each row, from the largest magnitude in it. -/
def scale {s : Shape} (a : FVec Bits s .f32) : FVec Bits s .f32 := twoTo (exponent a)

/-- What each row is multiplied by: two to the opposite power. -/
def inverse {s : Shape} (a : FVec Bits s .f32) : FVec Bits s .f32 := twoTo (subi (broadcast s 0#32) (exponent a))

section Congr
variable {s t : Shape} {i : s.Idx} {j : t.Idx}

/-- Each entry of `flushed` depends on that entry alone. -/
theorem flushed_congr {a : FVec Bits s .f32} {b : FVec Bits t .f32} (h : a i = b j) : flushed a i = flushed b j := by
  pointwise [flushed]
  rw [h]

/-- Each entry of `field` depends on that entry alone. -/
theorem field_congr {a : IVec s 32} {b : IVec t 32} (h : a i = b j) : field a i = field b j := by
  pointwise [field]
  rw [h]

/-- Each entry of `exponent` depends on that entry alone. -/
theorem exponent_congr {a : FVec Bits s .f32} {b : FVec Bits t .f32} (h : a i = b j) : exponent a i = exponent b j := by
  have e : field (flushed (mulf a (broadcast s (Scalar.ofBits (F := Bits) .f32 0x3B124925#32)))) i
      = field (flushed (mulf b (broadcast t (Scalar.ofBits (F := Bits) .f32 0x3B124925#32)))) j :=
    field_congr (flushed_congr (congrArg (fun z => FloatOps.mulf z (Scalar.ofBits (F := Bits) .f32 0x3B124925#32)) h))
  pointwise [exponent]
  rw [h, e]

/-- Every entry of `one` is the same, at any shape. -/
theorem one_congr : one s i = one t j := flushed_congr rfl

/-- Each entry of `moved` depends on that entry alone. -/
theorem moved_congr {a : IVec s 32} {b : IVec t 32} (h : a i = b j) : moved a i = moved b j := by
  have e : field (one s) i = field (one t) j := field_congr one_congr
  pointwise [moved]
  rw [h, e]

/-- Each entry of `twoTo` depends on that entry alone. -/
theorem twoTo_congr {a : IVec s 32} {b : IVec t 32} (h : a i = b j) : twoTo a i = twoTo b j := by
  have e : field (one s) i = field (one t) j := field_congr one_congr
  have o : one s i = one t j := one_congr
  have v : moved a i = moved b j := moved_congr h
  pointwise [twoTo]
  rw [e, o, v]

/-- Each row's scale depends on that row's largest magnitude alone. -/
theorem scale_congr {a : FVec Bits s .f32} {b : FVec Bits t .f32} (h : a i = b j) : scale a i = scale b j :=
  twoTo_congr (exponent_congr h)

/-- Each row's inverse scale depends on that row's largest magnitude alone. -/
theorem inverse_congr {a : FVec Bits s .f32} {b : FVec Bits t .f32} (h : a i = b j) : inverse a i = inverse b j :=
  twoTo_congr (congrArg (fun z : BitVec 32 => 0#32 - z) (exponent_congr h))

end Congr

/-- One code: the entry times its row's inverse scale, clipped to `[-448, 448]`, rounded to fp8. -/
def code (x : Bits .bf16) (w : Bits .f32) : Bits .fp8e4m3 :=
  FloatOps.truncf .fp8e4m3 Cert.Kernel.Gen.bitsLt_fp8e4m3_f32 (FloatOps.minimumf (FloatOps.ofBits (F := Bits) .f32 0x43E00000#32)
    (FloatOps.maximumf (FloatOps.ofBits (F := Bits) .f32 0xC3E00000#32) (FloatOps.mulf (FloatOps.extf .f32 Cert.Kernel.Gen.bitsLt_bf16_f32 x) w)))

/-! ## The kernel's block -/

section Kernel
open Cert.Kernel.Gen

/-- The largest magnitude in row `p` of a block. -/
theorem kernel_amax (x : Vec Bits S1x128x16384 .bf16) (p : Fin 128) :
    k0_pay3 x (ix2 p 0 : S128x1.Idx) = Finset.univ.fold FloatOps.maximumf (FloatOps.ofBits (F := Bits) .f32 0xFF800000#32)
      fun k => FloatOps.absf (FloatOps.extf .f32 bitsLt_bf16_f32 (x (ix3 0 p k))) := by
  pointwise [k0_pay3, k0_pay2]

/-- A load of the whole block is the block. -/
theorem block_eq (x : Vec Bits S1x128x16384 .bf16) : View.ld x r0_0 = x :=
  View.ld_unit_lit _ x (by decide)

/-- The kernel's chain of bit operations is `scale` of the rows' largest magnitudes. -/
theorem kernel_scale (x : Vec Bits S1x128x16384 .bf16) :
    k0_pay16 (F := Bits) (k0_pay28 x) (k0_pay29 x) (k0_pay30 x) (k0_pay31 x) (k0_pay32 x) (k0_pay33 x) (k0_pay34 x) (k0_pay35 x)
      = scale (k0_pay3 x) :=
  Eq.trans (b := scale (k0_pay3 (View.ld x r0_0))) rfl (by rw [block_eq])

/-- The scales the kernel stores as one row. -/
theorem kernel_scales_row (x : Vec Bits S1x128x16384 .bf16) (p : Fin 128) :
    k0_pay18 (F := Bits) (k0_pay28 x) (k0_pay29 x) (k0_pay30 x) (k0_pay31 x) (k0_pay32 x) (k0_pay33 x) (k0_pay34 x) (k0_pay35 x)
      (ix3 0 0 p : S1x1x128.Idx) = scale (k0_pay3 x) (ix2 p 0) := by
  rw [← kernel_scale]
  pointwise [k0_pay18]

/-- The kernel's last stage: a block's codes, from its rows and what each is multiplied by. -/
def kernelCodes (v : FVec Bits S128x16384 .f32) (w : FVec Bits S128x1 .f32) : FVec Bits S1x128x16384 .fp8e4m3 :=
  shapeCast S1x128x16384 (truncf .fp8e4m3 (minimumf (broadcast S128x16384 (Scalar.ofBits (F := Bits) .f32 0x43E00000#32))
    (maximumf (broadcast S128x16384 (Scalar.ofBits (F := Bits) .f32 0xC3E00000#32))
      (mulf v (broadcastTo S128x16384 w broadcasts_S128x1_S128x16384)))) bitsLt_fp8e4m3_f32) shapeCasts_S128x16384_S1x128x16384

/-- The codes the kernel stores are the last stage at `inverse` of the rows' largest magnitudes. -/
theorem kernel_codes (x : Vec Bits S1x128x16384 .bf16) :
    k0_pay1 (k0_pay2 x) (k0_pay19 (F := Bits)) (k0_pay20 (F := Bits)) (k0_pay21 (F := Bits)) (k0_pay22 (F := Bits)) (k0_pay23 (F := Bits)) (k0_pay24 (F := Bits)) 512#32 (k0_pay25 (k0_pay5 (k0_pay26 x) (k0_pay27 x)))
      = kernelCodes (k0_pay2 x) (inverse (k0_pay3 x)) :=
  Eq.trans (b := kernelCodes (k0_pay2 x) (inverse (k0_pay3 (View.ld x r0_0)))) rfl (by rw [block_eq])

/-- One of the block's codes. -/
theorem kernelCodes_apply (x : Vec Bits S1x128x16384 .bf16) (w : FVec Bits S128x1 .f32) (p : Fin 128) (k : Fin 16384) :
    kernelCodes (k0_pay2 x) w (ix3 0 p k) = code (x (ix3 0 p k)) (w (ix2 p 0)) := by
  unfold code
  pointwise [kernelCodes, k0_pay2]

end Kernel

/-! ## The reference's whole arrays -/

section Reference
open Cert.Reference.Gen

/-- The largest magnitude in row `r` of batch `b`. -/
theorem reference_amax (x : Vec Bits S2x768x16384 .bf16) (b : Fin 2) (r : Fin 768) :
    k0_pay4 x (ix3 b r 0 : S2x768x1.Idx) = Finset.univ.fold FloatOps.maximumf (FloatOps.ofBits (F := Bits) .f32 0xFF800000#32)
      fun k => FloatOps.absf (FloatOps.extf .f32 bitsLt_bf16_f32 (x (ix3 b r k))) := by
  pointwise [k0_pay4, k0_pay3]

/-- A load of the whole array is the array. -/
theorem ld_eq (x : Vec Bits S2x768x16384 .bf16) : View.ld x r0_0 = x :=
  View.ld_unit_lit _ x (by decide)

/-- The reference's chain of bit operations is `scale` of the rows' largest magnitudes. -/
theorem reference_scale (x0 : Vec Bits S2x768x16384 .bf16) (x1 x2 x3) :
    Cert.ReferenceValue.G6 (F := Bits) x0 x1 x2 x3 = scale (k0_pay4 x0) :=
  Eq.trans (b := scale (k0_pay4 (View.ld x0 r0_0))) rfl (by rw [ld_eq])

/-- The reference's last stage: the codes, from the rows and what each is multiplied by. -/
def referenceCodes (v : FVec Bits S2x768x16384 .f32) (w : FVec Bits S2x768x1 .f32) : FVec Bits S2x768x16384 .fp8e4m3 :=
  truncf .fp8e4m3 (minimumf (broadcast S2x768x16384 (Scalar.ofBits (F := Bits) .f32 0x43E00000#32))
    (maximumf (broadcast S2x768x16384 (Scalar.ofBits (F := Bits) .f32 0xC3E00000#32))
      (mulf v (broadcastTo S2x768x16384 w broadcasts_S2x768x1_S2x768x16384)))) bitsLt_fp8e4m3_f32

/-- The reference's codes are the last stage at `inverse` of the rows' largest magnitudes. -/
theorem reference_codes (x0 : Vec Bits S2x768x16384 .bf16) (x1 x2 x3) :
    Cert.ReferenceValue.G5 (F := Bits) x0 x1 x2 x3 = referenceCodes (k0_pay3 x0) (inverse (k0_pay4 x0)) :=
  Eq.trans (b := referenceCodes (k0_pay3 (View.ld x0 r0_0)) (inverse (k0_pay4 (View.ld x0 r0_0)))) rfl (by rw [ld_eq])

/-- One of the reference's codes. -/
theorem referenceCodes_apply (x : Vec Bits S2x768x16384 .bf16) (w : FVec Bits S2x768x1 .f32) (b : Fin 2) (r : Fin 768) (k : Fin 16384) :
    referenceCodes (k0_pay3 x) w (ix3 b r k) = code (x (ix3 b r k)) (w (ix3 b r 0)) := by
  unfold code
  pointwise [referenceCodes, k0_pay3]

end Reference

end Cert.Quantise

end
-- ==== Proof.KernelValue.lean ====
/- The whole kernel's run over bits: the codes and the scales it returns are the reference's. The first call's arrays are read
   block by block and then followed through the second call and the reshapes. -/
module

public import proofs.«01_k».proof.Proof.Quantise
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelValue

open Cert.Kernel Cert.Kernel.Gen

section Launch

variable {F : FTy → Type} [BitOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every buffer read: each execution ends with every unscoped buffer at the contents the fold through
    the program gives it. -/
theorem ends : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Launch

variable (m : (ℓ : Loc nD τ sig) → Buf (Elt Bits) ℓ) (ρ : Dev nD → PrngReg)

/-- The codes the reference computes from the four arguments. -/
abbrev codes (c : Dev nD) : Vec Bits S2x768x16384 .fp8e4m3 :=
  Cert.ReferenceValue.G5 (F := Bits) (m ((c : Thread nD τ).loc main_arg0)) (m ((c : Thread nD τ).loc main_arg1))
    (m ((c : Thread nD τ).loc main_arg2)) (m ((c : Thread nD τ).loc main_arg3))

/-- The scales the reference computes from the four arguments. -/
abbrev scales (c : Dev nD) : Vec Bits S2x768x1 .f32 :=
  Cert.ReferenceValue.G6 (F := Bits) (m ((c : Thread nD τ).loc main_arg0)) (m ((c : Thread nD τ).loc main_arg1))
    (m ((c : Thread nD τ).loc main_arg2)) (m ((c : Thread nD τ).loc main_arg3))

/-- The scales in the layout the quantising call writes them, one row of 768 per batch. -/
abbrev scalesRow (c : Dev nD) : Vec Bits S2x1x768 .f32 := shapeCast S2x1x768 (scales m c) (by decide)

/-- Where each window's block lies, as a function of the grid point. -/
theorem idx : ∀ t : Fin cfg0.N, win0_0.index t = ![t.val / 6, t.val % 6, 0] ∧ win0_1.index t = ![t.val / 6, t.val % 6, 0]
    ∧ win0_2.index t = ![t.val / 6, 0, t.val % 6] :=
  (by decide +kernel : ∀ t : Fin grid0.N, _)

/-- The first call's grid has twelve points. -/
theorem N_eq : cfg0.N = 12 := N_0

/-- Where an entry of a block of codes lies in the array of codes. -/
theorem emb1 (t : Fin cfg0.N) (p : Fin 128) (k : Fin 16384) :
    ((cfg0.win 1).blk t).view.emb (ix3 0 p k : S1x128x16384.Idx)
      = (ix3 ⟨t.val / 6, by have := t.isLt; have h := N_eq; omega⟩ ⟨t.val % 6 * 128 + p.val, by omega⟩ k : S2x768x16384.Idx) := by
  have := idx t
  blk_ext [idx t]

/-- Where an entry of a block of scales lies in the array of scales. -/
theorem emb2 (t : Fin cfg0.N) (p : Fin 128) :
    ((cfg0.win 2).blk t).view.emb (ix3 0 0 p : S1x1x128.Idx)
      = (ix3 ⟨t.val / 6, by have := t.isLt; have h := N_eq; omega⟩ 0 ⟨t.val % 6 * 128 + p.val, by omega⟩ : S2x1x768.Idx) := by
  have := idx t
  blk_ext [idx t]

/-- An entry of the block the body reads is the argument's entry under it. -/
theorem blk0 (c : Dev nD) (t : Fin cfg0.N) (p : Fin 128) (k : Fin 16384) (b : Fin 2) (r : Fin 768) (hb : b.val = t.val / 6)
    (hr : r.val = t.val % 6 * 128 + p.val) :
    iblk0 (V0 m ρ) c 0 t (ix3 0 p k : S1x128x16384.Idx) = m ((c : Thread nD τ).loc main_arg0) (ix3 b r k : S2x768x16384.Idx) := by
  rw [show m ((c : Thread nD τ).loc main_arg0) = V0 m ρ c main_arg0 from rfl]
  blk_ext [iblk0, idx t]

/-- The largest magnitude of a block's row is that of the argument's row under it. -/
theorem amax_eq (c : Dev nD) (t : Fin cfg0.N) (p : Fin 128) (b : Fin 2) (r : Fin 768) (hb : b.val = t.val / 6)
    (hr : r.val = t.val % 6 * 128 + p.val) :
    k0_pay3 (iblk0 (V0 m ρ) c 0 t) (ix2 p 0 : S128x1.Idx)
      = Cert.Reference.Gen.k0_pay4 (F := Bits) (m ((c : Thread nD τ).loc main_arg0)) (ix3 b r 0 : S2x768x1.Idx) := by
  refine (Quantise.kernel_amax _ p).trans (Eq.trans ?_ (Quantise.reference_amax _ b r).symm)
  exact congrArg (fun f => Finset.univ.fold FloatOps.maximumf (FloatOps.ofBits (F := Bits) .f32 0xFF800000#32) f)
    (funext fun k => congrArg (fun z => FloatOps.absf (FloatOps.extf .f32 bitsLt_bf16_f32 z)) (blk0 m ρ c t p k b r hb hr))

/-- Every entry of a block of codes has an index of this form. -/
theorem exists_ix1 (y : S1x128x16384.Idx) : ∃ (p : Fin 128) (k : Fin 16384), y = ix3 0 p k :=
  ⟨y 1, y 2, (eq_ix3 y).trans (by rw [show y 0 = (0 : Fin 1) from Subsingleton.elim (α := Fin 1) _ _])⟩

/-- Every entry of a block of scales has an index of this form. -/
theorem exists_ix2 (y : S1x1x128.Idx) : ∃ p : Fin 128, y = ix3 0 0 p :=
  ⟨y 2, (eq_ix3 y).trans (by rw [show y 0 = (0 : Fin 1) from Subsingleton.elim (α := Fin 1) _ _,
    show y 1 = (0 : Fin 1) from Subsingleton.elim (α := Fin 1) _ _])⟩

/-- One of the reference's codes. -/
theorem codes_apply (c : Dev nD) (b : Fin 2) (r : Fin 768) (k : Fin 16384) : codes m c (ix3 b r k)
    = Quantise.code (m ((c : Thread nD τ).loc main_arg0) (ix3 b r k : S2x768x16384.Idx))
        (Quantise.inverse (Cert.Reference.Gen.k0_pay4 (F := Bits) (m ((c : Thread nD τ).loc main_arg0))) (ix3 b r 0 : S2x768x1.Idx)) := by
  unfold codes
  rw [Quantise.reference_codes]
  exact Quantise.referenceCodes_apply _ _ b r k

/-- One of the reference's scales, in the row layout. -/
theorem scalesRow_apply (c : Dev nD) (b : Fin 2) (r : Fin 768) : scalesRow m c (ix3 b 0 r)
    = Quantise.scale (Cert.Reference.Gen.k0_pay4 (F := Bits) (m ((c : Thread nD τ).loc main_arg0))) (ix3 b r 0 : S2x768x1.Idx) := by
  rw [← Quantise.reference_scale _ (m ((c : Thread nD τ).loc main_arg1)) (m ((c : Thread nD τ).loc main_arg2)) (m ((c : Thread nD τ).loc main_arg3))]
  pointwise

/-- From the column layout to the row layout and back. -/
theorem row_column (x : Vec Bits S2x768x1 .f32) :
    shapeCast S2x768x1 (shapeCast S2x1x768 x (by decide)) shapeCasts_S2x1x768_S2x768x1 = x := by
  funext i
  obtain ⟨b, r, n, rfl⟩ : ∃ (b : Fin 2) (r : Fin 768) (n : Fin 1), i = (ix3 b r n : S2x768x1.Idx) := ⟨i 0, i 1, i 2, eq_ix3 i⟩
  pointwise

/-- After the first call the array of codes is the reference's. -/
theorem final1 (c : Dev nD) : (dat0 (V0 m ρ) c).arrAt 1 cfg0.N = codes m c := by
  refine (dat0 (V0 m ρ) c).arrAt_eq_of_covers 1 _ (by decide +kernel) fun t hf y => ?_
  rw [after0_1]
  frame_out
  obtain ⟨p, k, rfl⟩ := exists_ix1 y
  rw [emb1]
  have ht : t.val < 12 := lt_of_lt_of_eq (show t.val < cfg0.N from t.isLt) N_eq
  have hb : t.val / 6 < 2 := by omega
  have hr : t.val % 6 * 128 + p.val < 768 := by omega
  refine Eq.trans ?_ (codes_apply m c ⟨_, hb⟩ ⟨_, hr⟩ k).symm
  refine Eq.trans (congrFun (Quantise.kernel_codes (iblk0 (V0 m ρ) c 0 t)) (ix3 0 p k)) ?_
  rw [Quantise.kernelCodes_apply]
  exact congrArg₂ Quantise.code (blk0 m ρ c t p k _ _ rfl rfl) (Quantise.inverse_congr (amax_eq m ρ c t p _ _ rfl rfl))

/-- After the first call the array of scales is the reference's, in the row layout. -/
theorem final2 (c : Dev nD) : (dat0 (V0 m ρ) c).arrAt 2 cfg0.N = scalesRow m c := by
  refine (dat0 (V0 m ρ) c).arrAt_eq_of_covers 2 _ (by decide +kernel) fun t hf y => ?_
  rw [after0_2]
  frame_out
  obtain ⟨p, rfl⟩ := exists_ix2 y
  rw [emb2]
  have ht : t.val < 12 := lt_of_lt_of_eq (show t.val < cfg0.N from t.isLt) N_eq
  have hb : t.val / 6 < 2 := by omega
  have hr : t.val % 6 * 128 + p.val < 768 := by omega
  refine Eq.trans ?_ (scalesRow_apply m c ⟨_, hb⟩ ⟨_, hr⟩).symm
  exact (Quantise.kernel_scales_row (iblk0 (V0 m ρ) c 0 t) p).trans (Quantise.scale_congr (amax_eq m ρ c t p _ _ rfl rfl))

/-- The codes array is none of the second call's outputs and no later host operation writes it. -/
theorem W4_codes (c : Dev nD) : W4 m ρ c (Proc.devRef .tc main_v0_0) = codes m c :=
  (W4_of m ρ c main_v0_0 (by decide)).trans ((W3_of m ρ c main_v0_0 (by decide +kernel)).trans
    ((W2_of m ρ c main_v0_0 (by decide)).trans ((W1_arr m ρ c 1).trans (final1 m ρ c))))

/-- The second call and the reshapes before it leave the array of scales alone. -/
theorem W3_scales (c : Dev nD) : W3 m ρ c (Proc.devRef .tc main_v0_1) = scalesRow m c :=
  (W3_of m ρ c main_v0_1 (by decide +kernel)).trans
    ((W2_of m ρ c main_v0_1 (by decide)).trans ((W1_arr m ρ c 2).trans (final2 m ρ c)))

/-- The closing reshape turns the scales into the reference's layout. -/
theorem W4_scales (c : Dev nD) : W4 m ρ c (Proc.devRef .tc main_v4) = scales m c := by
  unfold_abbrev_sides
  simp only [hostOps2]
  after_results
  exact (congrArg (fun z : Vec Bits S2x1x768 .f32 => shapeCast S2x768x1 z shapeCasts_S2x1x768_S2x768x1) (W3_scales m ρ c)).trans (row_column _)

/-- The kernel's run: the codes and the scales are the reference's, and the arguments end as launched. -/
theorem run : θ_run defs (onTc (τ := τ) (main (F := Bits))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_v0_0) = codes m c
      ∧ r.2.mem ((c.tc : Thread nD τ).loc main_v4) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v3 (by decide)),
     (h c _ (mem_uc main_v0_0 (by decide))).trans (W4_codes m ρ c),
     (h c _ (mem_uc main_v4 (by decide))).trans (W4_scales m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (ends m ρ)

end Cert.KernelValue

end
-- ==== Proof.QuantiseReferenceValue.lean ====
/- The three results of the quantising call's reference after its run, each as one function of the argument array: the
   reference has one grid point and every block is a whole array, so each result array is what the body stores, applied to
   the argument. Copied from the generated value module, without its index-by-index restatement of the codes. -/
module

public import proofs.«01_k».proof.Proof.Gen.QuantiseReference.Frame
public import Idealize.ShloMosaic.Lib.Pipeline.Value

@[expose] public section

noncomputable section

namespace Cert.QuantiseReferenceValue

open Cert.QuantiseReference Cert.QuantiseReference.Gen Idealize.ShloMosaic Idealize.ShloMosaic.TcCoe Idealize.SL.Sem
open Idealize.ShloMosaic.Pipeline (Dat)

variable {F : FTy → Type} [BitOps F]
variable (m : (ℓ : Loc nD τ sig) → Buf (Elt F) ℓ) (ρ : Dev nD → PrngReg)

/-! ## Blockwise: what each point writes back, and the final array block by block -/

/-- WHAT POINT `t` WRITES BACK to output window 1's array: the body's result for that window (`Gen.out0_1`: its stores
    as pieces over the input windows' blocks), read through the window's block. -/
theorem flushed1 (c : Dev nD) (t : Fin cfg0.N) :
    (dats m 0 c).flushed 1 t = (cfg0.win 1).cut (grid0.coords t) (out0_1 (iblk m c 0 t)) := by
  show (cfg0.win 1).cut (grid0.coords t) ((dats m 0 c).after 1 t) = _
  rw [after0_1]

/-- The index map sends distinct grid points to distinct block indices (decided over the 1 point). -/
theorem idx_inj1 : ∀ t t' : Fin cfg0.N, win0_1.index t = win0_1.index t' → t = t' :=
  (by decide +kernel : ∀ t t' : Fin grid0.N, win0_1.index t = win0_1.index t' → t = t')

/-- So two flushing points' blocks share no array index (Lib/Pipeline/Cells.lean `Window.disjoint_blk`). -/
theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj1 t t' h)

/-- BLOCK `t` OF THE FINAL ARRAY, read back through the window, is what point `t` wrote back (`flushed1`), for every
    point that writes back: no other point's block meets it. -/
theorem blocks1 (c : Dev nD) (t : Fin cfg0.N) (hf : (cfg0.win 1).flush t = true) :
    ((cfg0.win 1).blk t).view.read (Elt F) ((dats m 0 c).arrAt 1 cfg0.N) = (dats m 0 c).flushed 1 t :=
  (dats m 0 c).read_blk_arrAt_eq_flushed 1 disjoint1 cfg0.N t t.isLt hf

/-- An index that no flushing point's block covers keeps output window 1's array contents at region entry. -/
theorem entry1 (c : Dev nD) (i : S2x768x16384.Idx) (h : ∀ t : Fin cfg0.N, (cfg0.win 1).flush t = true → i ∉ ((cfg0.win 1).blk t).view.set) :
    (dats m 0 c).arrAt 1 cfg0.N i = V m c (Pipeline.arrRef spec0 1) i := by
  rw [(dats m 0 c).arrAt_apply_of_forall_not_mem 1 cfg0.N i (fun t _ hf => h t hf), A_eq]

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S2x1x768.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S2x768x1.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 1's array is `(dats m 0 c).arrAt 1 N`. -/
theorem post1 (r : PUnit × MemSt nD τ sig (Elt F)) (h : Pipeline.FramePost cfgs (dats m) 0 (V m) r) (c : Dev nD) :
    r.2.mem ((c : Thread nD τ).loc main_v0_0) = (dats m 0 c).arrAt 1 cfg0.N :=
  (h c).1 1

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_1) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_2) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 1 cfg0.N
      ∧ r.2.mem ((c : Thread nD τ).loc main_v0_1) = (dats m 0 c).arrAt 2 cfg0.N
      ∧ r.2.mem ((c : Thread nD τ).loc main_v0_2) = (dats m 0 c).arrAt 3 cfg0.N
      ∧ r.2.mem ((c : Thread nD τ).loc main_arg0) = m ((c : Thread nD τ).loc main_arg0) :=
  (θ_run defs _ _).mono (fun r h c => ⟨post1 m r h c,
      post2 m r h c,
      post3 m r h c,
      kept_main_arg0 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x768x16384.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 768 + 1 * (j 1).val = (j 1).val; omega
  | ⟨2, _⟩ => show win0_0.index t (2 : Fin 3) * 16384 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x768x16384.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 768 + 1 * (j 1).val = (j 1).val; omega
  | ⟨2, _⟩ => show win0_1.index t (2 : Fin 3) * 16384 + 1 * (j 2).val = (j 2).val; omega

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S2x1x768.Idx) : ((cfg0.win 2).blk t).view.emb j = j := by
  obtain ⟨e0, e1, e2⟩ := idx_zero2 t
  funext a; apply Fin.ext
  match a with
  | ⟨0, _⟩ => show win0_2.index t (0 : Fin 3) * 2 + 1 * (j 0).val = (j 0).val; omega
  | ⟨1, _⟩ => show win0_2.index t (1 : Fin 3) * 1 + 1 * (j 1).val = (j 1).val; omega
  | ⟨2, _⟩ => show win0_2.index t (2 : Fin 3) * 768 + 1 * (j 2).val = (j 2).val; omega

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S2x768x1.Idx) : ((cfg0.win 3).blk t).view.emb j = j := by
  obtain ⟨e0, e1, e2⟩ := idx_zero3 t
  funext a; apply Fin.ext
  match a with
  | ⟨0, _⟩ => show win0_3.index t (0 : Fin 3) * 2 + 1 * (j 0).val = (j 0).val; omega
  | ⟨1, _⟩ => show win0_3.index t (1 : Fin 3) * 768 + 1 * (j 1).val = (j 1).val; omega
  | ⟨2, _⟩ => show win0_3.index t (2 : Fin 3) * 1 + 1 * (j 2).val = (j 2).val; omega

/-! ### Output window 1: the array after the run -/

/-- What the window's array ends holding: `out0_1` applied to the argument arrays in place of the input blocks (a value that the
    frame states apart, `kK_payN a…`, keeps its loads inside its own definition). -/
abbrev G1 (a0 : Vec F S2x768x16384 .bf16) : Vec F S2x768x16384 .fp8e4m3 :=
  k0_pay1 (k0_pay3 a0) (k0_pay13 (F := F)) (k0_pay14 (F := F)) (k0_pay16 (F := F)) (k0_pay17 (F := F)) (k0_pay19 (F := F) (k0_pay23 a0)) (k0_pay20 (F := F) (k0_pay23 a0))

/-- A load of the whole of a block reads the block, and the one store through the whole rectangle leaves its payload. -/
theorem out1_eq (a0 : Vec F S2x768x16384 .bf16) : out0_1 (F := F) a0 = G1 a0 := by
  unfold out0_1
  rw [View.canon_unit_zero hz1, View.ld_unit_zero (S := S2x768x16384) hz0 _ a0]

/-- Cutting the point's block out of `X` and reading `X` through the block's view give the same. -/
theorem cut1_eq (t : Fin cfg0.N) (X : Vec F S2x768x16384 .fp8e4m3) :
    (cfg0.win 1).cut (grid0.coords t) X = ((cfg0.win 1).blk t).view.read (Elt F) X := by
  funext j
  show X j = X (((cfg0.win 1).blk t).view.emb j)
  rw [emb1]

/-- WHAT THE POINT WRITES BACK is its block of `G1` of the argument arrays as the region finds them. -/
theorem flushed1_eq (c : Dev nD) (t : Fin cfg0.N) :
    (dats m 0 c).flushed 1 t = ((cfg0.win 1).blk t).view.read (Elt F) (G1 (V m c main_arg0)) := by
  show (cfg0.win 1).cut (grid0.coords t) ((dats m 0 c).after 1 t) = _
  rw [after0_1, out1_eq, iblk0_eq]
  exact cut1_eq t _

/-- Every index of the array is in the point's block. -/
theorem covered1 (i : S2x768x16384.Idx) :
    ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩

/-- THE ARRAY after the run: `G1` of the argument arrays as launched. -/
theorem final1 (c : Dev nD) : (dats m 0 c).arrAt 1 cfg0.N = G1 (m ((c : Thread nD τ).loc main_arg0)) :=
  ((dats m 0 c).arrAt_eq_of_cover 1 (G1 (V m c main_arg0)) (fun t _ => flushed1_eq m c t) covered1).trans (by rw [V_main_arg0])

/-! ### Output window 2: the array after the run -/

/-- What the window's array ends holding: `out0_2` applied to the argument arrays in place of the input blocks (a value that the
    frame states apart, `kK_payN a…`, keeps its loads inside its own definition). -/
abbrev G2 (a0 : Vec F S2x768x16384 .bf16) : Vec F S2x1x768 .f32 :=
  k0_pay2 (k0_pay24 a0)

/-- The one store through the whole rectangle leaves its payload. -/
theorem out2_eq (a0 : Vec F S2x768x16384 .bf16) : out0_2 (F := F) a0 = G2 a0 := by
  unfold out0_2
  rw [View.canon_unit_zero hz2]

/-- Cutting the point's block out of `X` and reading `X` through the block's view give the same. -/
theorem cut2_eq (t : Fin cfg0.N) (X : Vec F S2x1x768 .f32) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0)) := by
  show (cfg0.win 2).cut (grid0.coords t) ((dats m 0 c).after 2 t) = _
  rw [after0_2, out2_eq, iblk0_eq]
  exact cut2_eq t _

/-- Every index of the array is in the point's block. -/
theorem covered2 (i : S2x1x768.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) :=
  ((dats m 0 c).arrAt_eq_of_cover 2 (G2 (V m c main_arg0)) (fun t _ => flushed2_eq m c t) covered2).trans (by rw [V_main_arg0])

/-! ### Output window 3: the array after the run -/

/-- What the window's array ends holding: `out0_3` applied to the argument arrays in place of the input blocks (a value that the
    frame states apart, `kK_payN a…`, keeps its loads inside its own definition). -/
abbrev G3 (a0 : Vec F S2x768x16384 .bf16) : Vec F S2x768x1 .f32 :=
  k0_pay24 a0

/-- The one store through the whole rectangle leaves its payload. -/
theorem out3_eq (a0 : Vec F S2x768x16384 .bf16) : out0_3 (F := F) a0 = G3 a0 := by
  unfold out0_3
  rw [View.canon_unit_zero hz3]

/-- Cutting the point's block out of `X` and reading `X` through the block's view give the same. -/
theorem cut3_eq (t : Fin cfg0.N) (X : Vec F S2x768x1 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0)) := by
  show (cfg0.win 3).cut (grid0.coords t) ((dats m 0 c).after 3 t) = _
  rw [after0_3, out3_eq, iblk0_eq]
  exact cut3_eq t _

/-- Every index of the array is in the point's block. -/
theorem covered3 (i : S2x768x1.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) :=
  ((dats m 0 c).arrAt_eq_of_cover 3 (G3 (V m c main_arg0)) (fun t _ => flushed3_eq m c t) covered3).trans (by rw [V_main_arg0])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G1 (m ((c : Thread nD τ).loc main_arg0))
      ∧ r.2.mem ((c : Thread nD τ).loc main_v0_1) = G2 (m ((c : Thread nD τ).loc main_arg0))
      ∧ r.2.mem ((c : Thread nD τ).loc main_v0_2) = G3 (m ((c : Thread nD τ).loc main_arg0))
      ∧ r.2.mem ((c : Thread nD τ).loc main_arg0) = m ((c : Thread nD τ).loc main_arg0) :=
  (θ_run defs _ _).mono (fun r h c => ⟨(post1 m r h c).trans (final1 m c),
      (post2 m r h c).trans (final2 m c),
      (post3 m r h c).trans (final3 m c),
      kept_main_arg0 m r h c⟩)
    (run_main m ρ)

end Cert.QuantiseReferenceValue

end
-- ==== Proof.QuantiseCallValue.lean ====
/- The run of the quantising call by itself: the codes, and the scales in both layouts, are those of its reference, bit for
   bit. -/
module

public import proofs.«01_k».proof.Proof.Gen.QuantiseCall.Frame
public import proofs.«01_k».proof.Proof.QuantiseReferenceValue
public import proofs.«01_k».proof.Proof.Quantise
public import Idealize.ShloMosaic.Lib.Claim

@[expose] public section

set_option maxRecDepth 16384

noncomputable section

open Idealize.ShloMosaic Idealize.ShloMosaic.TcCoe Idealize.SL.Sem
open Idealize.ShloMosaic.Pipeline (Dat Cfg Window BodyObligation cellOf)

namespace Cert.QuantiseCallValue

/-! ## The reference's three results -/

section Reference
open Cert.QuantiseReference Cert.QuantiseReference.Gen

/-- A load of the reference's whole block is the block. -/
theorem ld_eq (x : Vec Bits S2x768x16384 .bf16) : View.ld x r0_0 = x :=
  View.ld_unit_lit _ x (by decide)

/-- The largest magnitude of each row. -/
abbrev amax (x : Vec Bits S2x768x16384 .bf16) : FVec Bits S2x768x1 .f32 := Cert.Reference.Gen.k0_pay4 x

/-- The reference's scales, one column per batch, are the power of two of each row's largest magnitude. -/
theorem reference_scale (x : Vec Bits S2x768x16384 .bf16) :
    Cert.QuantiseReferenceValue.G3 (F := Bits) x = Quantise.scale (amax x) :=
  Eq.trans (b := Quantise.scale (amax (View.ld x r0_0))) rfl (by rw [ld_eq])

/-- The reference's scales, one row per batch, are the same numbers. -/
theorem reference_scalesRow (x : Vec Bits S2x768x16384 .bf16) (b : Fin 2) (r : Fin 768) :
    Cert.QuantiseReferenceValue.G2 (F := Bits) x (ix3 b 0 r : S2x1x768.Idx) = Quantise.scale (amax x) (ix3 b r 0 : S2x768x1.Idx) := by
  rw [← reference_scale]
  pointwise [k0_pay2]

/-- The reference's codes, from each row's inverse scale. -/
theorem reference_codes (x : Vec Bits S2x768x16384 .bf16) :
    Cert.QuantiseReferenceValue.G1 (F := Bits) x
      = Quantise.referenceCodes (Cert.Reference.Gen.k0_pay3 x) (Quantise.inverse (amax x)) :=
  Eq.trans (b := Quantise.referenceCodes (Cert.Reference.Gen.k0_pay3 x) (Quantise.inverse (amax (View.ld x r0_0)))) rfl
    (by rw [ld_eq])

/-- One of the reference's codes. -/
theorem reference_code (x : Vec Bits S2x768x16384 .bf16) (b : Fin 2) (r : Fin 768) (k : Fin 16384) :
    Cert.QuantiseReferenceValue.G1 (F := Bits) x (ix3 b r k : S2x768x16384.Idx)
      = Quantise.code (x (ix3 b r k)) (Quantise.inverse (amax x) (ix3 b r 0 : S2x768x1.Idx)) := by
  rw [reference_codes]
  exact Quantise.referenceCodes_apply _ _ b r k

end Reference

/-! ## The call's blocks and arrays -/

open Cert.QuantiseCall Cert.QuantiseCall.Gen

variable (m : (ℓ : Loc nD τ sig) → Buf (Elt Bits) ℓ) (ρ : Dev nD → PrngReg)

/-- The argument as launched. -/
abbrev arg (c : Dev nD) : Vec Bits S2x768x16384 .bf16 := m ((c : Thread nD τ).loc main_arg0)

/-- Where each window's block lies, as a function of the grid point. -/
theorem idx : ∀ t : Fin cfg0.N, win0_0.index t = ![t.val / 6, t.val % 6, 0] ∧ win0_1.index t = ![t.val / 6, t.val % 6, 0]
    ∧ win0_2.index t = ![t.val / 6, 0, t.val % 6] ∧ win0_3.index t = ![t.val / 6, t.val % 6, 0] :=
  (by decide +kernel : ∀ t : Fin grid0.N, _)

/-- The grid has twelve points. -/
theorem N_eq : cfg0.N = 12 := N_0

/-- Where an entry of a block of codes lies in the array of codes. -/
theorem emb1 (t : Fin cfg0.N) (p : Fin 128) (k : Fin 16384) :
    ((cfg0.win 1).blk t).view.emb (ix3 0 p k : S1x128x16384.Idx)
      = (ix3 ⟨t.val / 6, by have := t.isLt; have h := N_eq; omega⟩ ⟨t.val % 6 * 128 + p.val, by omega⟩ k : S2x768x16384.Idx) := by
  have := idx t
  blk_ext [idx t]

/-- Where an entry of a block of scales lies in the array with one row per batch. -/
theorem emb2 (t : Fin cfg0.N) (p : Fin 128) :
    ((cfg0.win 2).blk t).view.emb (ix3 0 0 p : S1x1x128.Idx)
      = (ix3 ⟨t.val / 6, by have := t.isLt; have h := N_eq; omega⟩ 0 ⟨t.val % 6 * 128 + p.val, by omega⟩ : S2x1x768.Idx) := by
  have := idx t
  blk_ext [idx t]

/-- Where an entry of a block of scales lies in the array with one column per batch. -/
theorem emb3 (t : Fin cfg0.N) (p : Fin 128) :
    ((cfg0.win 3).blk t).view.emb (ix3 0 p 0 : S1x128x1.Idx)
      = (ix3 ⟨t.val / 6, by have := t.isLt; have h := N_eq; omega⟩ ⟨t.val % 6 * 128 + p.val, by omega⟩ 0 : S2x768x1.Idx) := by
  have := idx t
  blk_ext [idx t]

/-- An entry of the block the body reads is the argument's entry under it. -/
theorem blk0 (c : Dev nD) (t : Fin cfg0.N) (p : Fin 128) (k : Fin 16384) (b : Fin 2) (r : Fin 768) (hb : b.val = t.val / 6)
    (hr : r.val = t.val % 6 * 128 + p.val) :
    iblk m c 0 t (ix3 0 p k : S1x128x16384.Idx) = arg m c (ix3 b r k : S2x768x16384.Idx) := by
  rw [show arg m c = V m c main_arg0 from rfl]
  blk_ext [iblk, idx t]

/-- The largest magnitude of a block's row is that of the argument's row under it. -/
theorem amax_eq (c : Dev nD) (t : Fin cfg0.N) (p : Fin 128) (b : Fin 2) (r : Fin 768) (hb : b.val = t.val / 6)
    (hr : r.val = t.val % 6 * 128 + p.val) :
    Cert.Kernel.Gen.k0_pay3 (iblk m c 0 t) (ix2 p 0 : S128x1.Idx) = amax (arg m c) (ix3 b r 0 : S2x768x1.Idx) := by
  refine (Quantise.kernel_amax _ p).trans (Eq.trans ?_ (Quantise.reference_amax _ b r).symm)
  exact congrArg (fun f => Finset.univ.fold FloatOps.maximumf (FloatOps.ofBits (F := Bits) .f32 0xFF800000#32) f)
    (funext fun k => congrArg (fun z => FloatOps.absf (FloatOps.extf .f32 bitsLt_bf16_f32 z)) (blk0 m c t p k b r hb hr))

/-- A load of the whole block is the block. -/
theorem block_eq (x : Vec Bits S1x128x16384 .bf16) : View.ld x r0_0 = x :=
  View.ld_unit_lit _ x (by decide)

/-- The block of scales with one column. -/
theorem scales_block (x : Vec Bits S1x128x16384 .bf16) (p : Fin 128) :
    k0_pay17 (F := Bits) (k0_pay28 x) (k0_pay29 x) (k0_pay30 x) (k0_pay31 x) (k0_pay32 x) (k0_pay33 x) (k0_pay34 x) (k0_pay35 x)
      (ix3 0 p 0 : S1x128x1.Idx) = Quantise.scale (Cert.Kernel.Gen.k0_pay3 x) (ix2 p 0) := by
  rw [← Quantise.kernel_scale]
  refine Eq.trans (b := shapeCast S1x128x1 (Cert.Kernel.Gen.k0_pay16 (F := Bits) (Cert.Kernel.Gen.k0_pay28 x) (Cert.Kernel.Gen.k0_pay29 x)
    (Cert.Kernel.Gen.k0_pay30 x) (Cert.Kernel.Gen.k0_pay31 x) (Cert.Kernel.Gen.k0_pay32 x) (Cert.Kernel.Gen.k0_pay33 x)
    (Cert.Kernel.Gen.k0_pay34 x) (Cert.Kernel.Gen.k0_pay35 x)) shapeCasts_S128x1_S1x128x1 (ix3 0 p 0)) rfl ?_
  pointwise

/-- Every entry of a block of codes has an index of this form. -/
theorem exists_ix1 (y : S1x128x16384.Idx) : ∃ (p : Fin 128) (k : Fin 16384), y = ix3 0 p k :=
  ⟨y 1, y 2, (eq_ix3 y).trans (by rw [show y 0 = (0 : Fin 1) from Subsingleton.elim (α := Fin 1) _ _])⟩

/-- Every entry of a one-row block of scales has an index of this form. -/
theorem exists_ix2 (y : S1x1x128.Idx) : ∃ p : Fin 128, y = ix3 0 0 p :=
  ⟨y 2, (eq_ix3 y).trans (by rw [show y 0 = (0 : Fin 1) from Subsingleton.elim (α := Fin 1) _ _,
    show y 1 = (0 : Fin 1) from Subsingleton.elim (α := Fin 1) _ _])⟩

/-- Every entry of a one-column block of scales has an index of this form. -/
theorem exists_ix3 (y : S1x128x1.Idx) : ∃ p : Fin 128, y = ix3 0 p 0 :=
  ⟨y 1, (eq_ix3 y).trans (by rw [show y 0 = (0 : Fin 1) from Subsingleton.elim (α := Fin 1) _ _,
    show y 2 = (0 : Fin 1) from Subsingleton.elim (α := Fin 1) _ _])⟩

/-- After the run the array of codes is the reference's. -/
theorem final1 (c : Dev nD) : (dats m 0 c).arrAt 1 cfg0.N = Cert.QuantiseReferenceValue.G1 (F := Bits) (arg m c) := by
  refine (dats m 0 c).arrAt_eq_of_covers 1 _ (by decide +kernel) fun t hf y => ?_
  rw [after0_1]
  frame_out
  obtain ⟨p, k, rfl⟩ := exists_ix1 y
  rw [emb1]
  have ht : t.val < 12 := lt_of_lt_of_eq (show t.val < cfg0.N from t.isLt) N_eq
  have hb : t.val / 6 < 2 := by omega
  have hr : t.val % 6 * 128 + p.val < 768 := by omega
  refine Eq.trans ?_ (reference_code (arg m c) ⟨_, hb⟩ ⟨_, hr⟩ k).symm
  refine Eq.trans (congrFun (Quantise.kernel_codes (iblk m c 0 t)) (ix3 0 p k)) ?_
  rw [Quantise.kernelCodes_apply]
  exact congrArg₂ Quantise.code (blk0 m c t p k _ _ rfl rfl) (Quantise.inverse_congr (amax_eq m c t p _ _ rfl rfl))

/-- After the run the scales with one row per batch are the reference's. -/
theorem final2 (c : Dev nD) : (dats m 0 c).arrAt 2 cfg0.N = Cert.QuantiseReferenceValue.G2 (F := Bits) (arg m c) := by
  refine (dats m 0 c).arrAt_eq_of_covers 2 _ (by decide +kernel) fun t hf y => ?_
  rw [after0_2]
  frame_out
  obtain ⟨p, rfl⟩ := exists_ix2 y
  rw [emb2]
  have ht : t.val < 12 := lt_of_lt_of_eq (show t.val < cfg0.N from t.isLt) N_eq
  have hb : t.val / 6 < 2 := by omega
  have hr : t.val % 6 * 128 + p.val < 768 := by omega
  refine Eq.trans ?_ (reference_scalesRow (arg m c) ⟨_, hb⟩ ⟨_, hr⟩).symm
  exact (Quantise.kernel_scales_row (iblk m c 0 t) p).trans (Quantise.scale_congr (amax_eq m c t p _ _ rfl rfl))

/-- After the run the scales with one column per batch are the reference's. -/
theorem final3 (c : Dev nD) : (dats m 0 c).arrAt 3 cfg0.N = Cert.QuantiseReferenceValue.G3 (F := Bits) (arg m c) := by
  refine (dats m 0 c).arrAt_eq_of_covers 3 _ (by decide +kernel) fun t hf y => ?_
  rw [after0_3]
  frame_out
  obtain ⟨p, rfl⟩ := exists_ix3 y
  rw [emb3]
  have ht : t.val < 12 := lt_of_lt_of_eq (show t.val < cfg0.N from t.isLt) N_eq
  have hb : t.val / 6 < 2 := by omega
  have hr : t.val % 6 * 128 + p.val < 768 := by omega
  refine Eq.trans ?_ (congrFun (reference_scale (arg m c)) (ix3 ⟨_, hb⟩ ⟨_, hr⟩ 0)).symm
  exact (scales_block (iblk m c 0 t) p).trans (Quantise.scale_congr (amax_eq m c t p _ _ rfl rfl))

/-- The call's run: the codes and both layouts of the scales are the reference's, and the argument ends as launched. -/
theorem run : θ_run defs (onTc (τ := τ) (main (F := Bits))) ⟨m, fun _ => 0, ρ⟩ (fun r => ∀ c : Dev nD,
      r.2.mem ((c.tc : Thread nD τ).loc main_v0_0) = Cert.QuantiseReferenceValue.G1 (F := Bits) (arg m c)
      ∧ r.2.mem ((c.tc : Thread nD τ).loc main_v0_1) = Cert.QuantiseReferenceValue.G2 (F := Bits) (arg m c)
      ∧ r.2.mem ((c.tc : Thread nD τ).loc main_v0_2) = Cert.QuantiseReferenceValue.G3 (F := Bits) (arg m c)
      ∧ r.2.mem ((c.tc : Thread nD τ).loc main_arg0) = m ((c.tc : Thread nD τ).loc main_arg0)) :=
  (θ_run defs _ _).mono (fun r h c =>
    ⟨((h c).1 1).trans (final1 m c), ((h c).1 2).trans (final2 m c), ((h c).1 3).trans (final3 m c),
     (h c).1 0⟩) (run_main m ρ)

end Cert.QuantiseCallValue

end
-- ==== Proof.ProjectPayload.lean ====
/- Over the extended reals, one entry of what the projection's body stores, and one entry of its reference's result: the sum
   over the inner axis, times the row's scale, times the column's weight scale, plus the residual. -/
module

public import proofs.«01_k».proof.Proof.Gen.ProjectIdeal.Frame
public import proofs.«01_k».proof.Proof.Gen.ProjectReferenceIdeal.Frame
public import Idealize.ShloMosaic.Lib.Pointwise

@[expose] public section

set_option maxRecDepth 16384

noncomputable section

open Idealize.ShloMosaic

namespace Cert.ProjectReferenceIdeal.Payload

open Cert.ProjectReferenceIdeal Cert.ProjectReferenceIdeal.Gen

/-- The reference's result at batch `b`, row `s`, column `n`. -/
theorem pay_apply (a0 : Vec Ideal S2x768x16384 .fp8e4m3) (a1 : Vec Ideal S16384x7168 .fp8e4m3) (a2 : Vec Ideal S2x768x1 .f32)
    (a3 : Vec Ideal S7168 .f32) (a4 : Vec Ideal S2x768x7168 .bf16) (b : Fin 2) (s : Fin 768) (n : Fin 7168) :
    k0_pay1 (F := Ideal) a0 a1 a2 a3 a4 (ix3 b s n) = ((∑ k : Fin 16384, (a0 (ix3 b s k) : EReal) * (a1 (ix2 k n) : EReal)) * (a2 (ix3 b s 0) : EReal) * (a3 (ix1 n) : EReal) + (a4 (ix3 b s n) : EReal) : EReal) := by
  pointwise [k0_pay1]

end Cert.ProjectReferenceIdeal.Payload

namespace Cert.ProjectIdeal.Payload

open Cert.ProjectIdeal Cert.ProjectIdeal.Gen

/-- The block one grid point computes, at row `8 p + q` of its 768 rows and column `l` of its 512. -/
theorem pay_apply (v0 : Vec Ideal S1x768x16384 .fp8e4m3) (v2 : Vec Ideal S16384x512 .fp8e4m3) (v4 : Vec Ideal S1x768x1 .f32)
    (v8 : Vec Ideal S1x512 .f32) (v12 : Vec Ideal S1x768x512 .bf16) (p : Fin 96) (q : Fin 8) (l : Fin 512) :
    k0_pay1 (F := Ideal) v0 v2 v4 v8 v12 (ix3 p q l) = (((∑ k : Fin 16384, (v0 (ix3 0 ⟨p.val * 8 + q.val, by omega⟩ k) : EReal) * (v2 (ix2 k l) : EReal)) * (v4 (ix3 0 ⟨p.val * 8 + q.val, by omega⟩ 0) : EReal) * (v8 (ix2 0 l) : EReal) + (v12 (ix3 0 ⟨p.val * 8 + q.val, by omega⟩ l) : EReal)) : EReal) := by
  pointwise [k0_pay1]

end Cert.ProjectIdeal.Payload

end
-- ==== Proof.ProjectValue.lean ====
/- The projection's run over the extended reals: its result is its reference's, computed from the same five arguments. -/
module

public import proofs.«01_k».proof.Proof.ProjectPayload
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjectIdeal.ProjectValue

open Cert.ProjectIdeal Cert.ProjectIdeal.Gen

variable (m : (ℓ : Loc nD τ sig) → Buf (Elt Ideal) ℓ) (ρ : Dev nD → PrngReg)

/-- The whole result, `[2, 768, 7168]`, as the reference computes it from the five arguments. -/
abbrev whole (c : Dev nD) : Vec Ideal S2x768x7168 .bf16 :=
  Cert.ProjectReferenceIdeal.Gen.k0_pay1 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The same entries in the kernel's layout `[192, 8, 7168]`. -/
abbrev tiled (c : Dev nD) : Vec Ideal S192x8x7168 .bf16 :=
  shapeCast S192x8x7168 (whole m c) (by decide)

/-- Before the region the weight scales are laid out as one row. -/
theorem V_main_v0 (c : Dev nD) : V m c main_v0 = shapeCast S1x7168 (m ((c : Thread nD τ).loc main_arg3)) shapeCasts_S7168_S1x7168 := by
  unfold_abbrev_sides
  simp only [hostOps0, List.flatten_cons, List.flatten_nil, List.append_nil]
  after_results
  rfl

/-- Entry `n` of the weight scales laid out as one row. -/
theorem row_apply (x : Vec Ideal S7168 .f32) (n : Fin 7168) : shapeCast S1x7168 x shapeCasts_S7168_S1x7168 (ix2 0 n) = x (ix1 n) := by
  pointwise

/-- Where each window's block lies, as a function of the grid point. -/
theorem idx : ∀ t : Fin cfg0.N, win0_0.index t = ![t.val / 14, 0, 0] ∧ win0_1.index t = ![0, t.val % 14] ∧ win0_2.index t = ![t.val / 14, 0, 0]
    ∧ win0_3.index t = ![0, t.val % 14] ∧ win0_4.index t = ![t.val / 14, 0, t.val % 14] ∧ win0_5.index t = ![t.val / 14, 0, t.val % 14] :=
  (by decide +kernel : ∀ t : Fin grid0.N, _)

/-- Where an entry of the result's block lies in the result's array, `[192, 8, 7168]`. -/
theorem emb5 (t : Fin cfg0.N) (p : Fin 96) (q : Fin 8) (l : Fin 512) :
    ((cfg0.win 5).blk t).view.emb (ix3 p q l : S96x8x512.Idx)
      = (ix3 ⟨t.val / 14 * 96 + p.val, by have := t.isLt; have h : cfg0.N = 28 := N_0; omega⟩ q ⟨t.val % 14 * 512 + l.val, by omega⟩ : S192x8x7168.Idx) := by
  have := idx t
  blk_ext [idx t]

/-- The block of codes is one batch of the codes. -/
theorem blk0 (c : Dev nD) (t : Fin cfg0.N) (r : Fin 768) (k : Fin 16384) (b : Fin 2) (hb : b.val = t.val / 14) :
    iblk m c 0 t (ix3 0 r k : S1x768x16384.Idx) = m ((c : Thread nD τ).loc main_arg0) (ix3 b r k : S2x768x16384.Idx) := by
  rw [← V_main_arg0 m c]
  blk_ext [iblk, idx t]

/-- The block of weight codes is 512 columns of the weight codes. -/
theorem blk1 (c : Dev nD) (t : Fin cfg0.N) (k : Fin 16384) (l : Fin 512) (n : Fin 7168) (hn : n.val = t.val % 14 * 512 + l.val) :
    iblk m c 1 t (ix2 k l : S16384x512.Idx) = m ((c : Thread nD τ).loc main_arg1) (ix2 k n : S16384x7168.Idx) := by
  rw [← V_main_arg1 m c]
  blk_ext [iblk, idx t]

/-- The block of scales is one batch of the scales. -/
theorem blk2 (c : Dev nD) (t : Fin cfg0.N) (r : Fin 768) (b : Fin 2) (hb : b.val = t.val / 14) :
    iblk m c 2 t (ix3 0 r 0 : S1x768x1.Idx) = m ((c : Thread nD τ).loc main_arg2) (ix3 b r 0 : S2x768x1.Idx) := by
  rw [← V_main_arg2 m c]
  blk_ext [iblk, idx t]

/-- The block of weight scales is 512 of the weight scales. -/
theorem blk3 (c : Dev nD) (t : Fin cfg0.N) (l : Fin 512) (n : Fin 7168) (hn : n.val = t.val % 14 * 512 + l.val) :
    iblk m c 3 t (ix2 0 l : S1x512.Idx) = m ((c : Thread nD τ).loc main_arg3) (ix1 n : S7168.Idx) := by
  have e : V m c main_v0 (ix2 0 n : S1x7168.Idx) = m ((c : Thread nD τ).loc main_arg3) (ix1 n : S7168.Idx) := by
    rw [V_main_v0]; exact row_apply _ n
  rw [← e]
  blk_ext [iblk, idx t]

/-- The block of the residual is 512 columns of one batch of the residual. -/
theorem blk4 (c : Dev nD) (t : Fin cfg0.N) (r : Fin 768) (l : Fin 512) (b : Fin 2) (n : Fin 7168) (hb : b.val = t.val / 14) (hn : n.val = t.val % 14 * 512 + l.val) :
    iblk m c 4 t (ix3 0 r l : S1x768x512.Idx) = m ((c : Thread nD τ).loc main_arg4) (ix3 b r n : S2x768x7168.Idx) := by
  rw [← V_main_arg4 m c]
  blk_ext [iblk, idx t]

/-- Row `8 (u mod 96) + q` of batch `u / 96` is entry `(u, q)` of the kernel's layout. -/
theorem tiled_apply (c : Dev nD) (u : Fin 192) (q : Fin 8) (n : Fin 7168) :
    tiled m c (ix3 u q n) = whole m c (ix3 ⟨u.val / 96, by omega⟩ ⟨u.val % 96 * 8 + q.val, by omega⟩ n) := by
  unfold tiled
  pointwise

/-- Two entries built alike from equal numbers are equal. -/
theorem entry_congr {a a' w w' : Fin 16384 → EReal} (ha : ∀ k, a k = a' k) (hw : ∀ k, w k = w' k) {x x' y y' z z' : EReal}
    (hx : x = x') (hy : y = y') (hz : z = z') : (∑ k, a k * w k) * x * y + z = (∑ k, a' k * w' k) * x' * y' + z' := by
  rw [funext ha, funext hw, hx, hy, hz]

/-- After the run the result's array holds the whole result in the kernel's layout: each grid point writes its block of it, and
    the blocks cover it. -/
theorem final5 (c : Dev nD) : (dats m 0 c).arrAt 5 cfg0.N = tiled m c := by
  refine (dats m 0 c).arrAt_eq_of_covers 5 _ (by decide +kernel) fun t hf y => ?_
  rw [after0_5]
  frame_out
  obtain ⟨p, q, l, rfl⟩ : ∃ (p : Fin 96) (q : Fin 8) (l : Fin 512), y = (ix3 p q l : S96x8x512.Idx) := ⟨y 0, y 1, y 2, eq_ix3 y⟩
  have hN : cfg0.N = 28 := N_0
  have ht : t.val < 28 := hN ▸ t.isLt
  rw [emb5]
  refine (Cert.ProjectIdeal.Payload.pay_apply _ _ _ _ _ p q l).trans ?_
  refine Eq.trans ?_ (tiled_apply m c _ _ _).symm
  refine Eq.trans ?_ (Cert.ProjectReferenceIdeal.Payload.pay_apply _ _ _ _ _ _ _ _).symm
  have hr : (t.val / 14 * 96 + p.val) % 96 * 8 + q.val = p.val * 8 + q.val := by omega
  have hb : (t.val / 14 * 96 + p.val) / 96 = t.val / 14 := by omega
  simp only [hr]
  exact entry_congr (fun k => blk0 m c t _ k _ hb) (fun k => blk1 m c t k l _ rfl) (blk2 m c t _ _ hb)
    (blk3 m c t l _ rfl) (blk4 m c t _ l _ _ hb rfl)

/-- Out of the kernel's layout and back. -/
theorem untile (x : Vec Ideal S2x768x7168 .bf16) :
    shapeCast S2x768x7168 (shapeCast S192x8x7168 x (by decide)) shapeCasts_S192x8x7168_S2x768x7168 = x := by
  funext i
  obtain ⟨b, r, n, rfl⟩ : ∃ (b : Fin 2) (r : Fin 768) (n : Fin 7168), i = (ix3 b r n : S2x768x7168.Idx) := ⟨i 0, i 1, i 2, eq_ix3 i⟩
  pointwise

/-- After the closing reshape the result is the reference's. -/
theorem W_main_v2 (c : Dev nD) :
    Pipeline.afterTail₀ cfgs (dats m) 0 (V0 m) [hostOps1] c main_v2 = whole m c := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v1) = tiled m c :=
    (Pipeline.withArrays_arr spec0 launch0.win.arr_inj c (V0 m c) (fun w => (dats m 0 c).arrAt w cfg0.N) 5).trans (final5 m c)
  exact (congrArg (fun z : Vec Ideal S192x8x7168 .bf16 => shapeCast S2x768x7168 z shapeCasts_S192x8x7168_S2x768x7168) e).trans (untile _)

/-- The projection's run: the result is the reference's, and the arguments end as launched. -/
theorem run : θ_run defs (onTc (τ := τ) (main (F := Ideal))) ⟨m, fun _ => 0, ρ⟩ (fun r => ∀ c : Dev nD,
      r.2.mem ((c.tc : Thread nD τ).loc main_v2) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).trans (W_main_v2 m c), h.2 c⟩)
    (θ_run_and ((θ_run defs _ _).mono (fun _ h c => (h c).2 main_v2 (Pipeline.mem_restRefs_of main_v2 (by decide) (by decide))) (run_main m ρ))
      (unchanged m ρ))

end Cert.ProjectIdeal.ProjectValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.QuantiseCall
public import proofs.«01_k».proof.Proof.Gen.QuantiseCall.Skeleton
public import proofs.«01_k».proof.Proof.Gen.QuantiseCall.Launch
public import proofs.«01_k».proof.Proof.Gen.QuantiseCall.Points
public import proofs.«01_k».proof.Proof.Gen.QuantiseCall.Frame
public import proofs.«01_k».proof.Proof.Gen.QuantiseReference
public import proofs.«01_k».proof.Proof.Gen.QuantiseReference.Skeleton
public import proofs.«01_k».proof.Proof.Gen.QuantiseReference.Launch
public import proofs.«01_k».proof.Proof.Gen.QuantiseReference.Points
public import proofs.«01_k».proof.Proof.Gen.QuantiseReference.Frame
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectReferenceIdeal
public import proofs.«01_k».proof.Proof.Gen.ProjectReferenceIdeal.Skeleton
public import proofs.«01_k».proof.Proof.Gen.ProjectReferenceIdeal.Launch
public import proofs.«01_k».proof.Proof.Gen.ProjectReferenceIdeal.Points
public import proofs.«01_k».proof.Proof.Gen.ProjectReferenceIdeal.Frame
public import proofs.«01_k».proof.Proof.Gen.On_codes_and_scales
public import proofs.«01_k».proof.Proof.Gen.ProjectReferenceIdeal.Value
public import proofs.«01_k».proof.Proof.ReferenceValue
public import proofs.«01_k».proof.Proof.KernelValue
public import proofs.«01_k».proof.Proof.QuantiseCallValue
public import proofs.«01_k».proof.Proof.ProjectValue
public import Idealize.ShloMosaic.Adequacy
public import Idealize.ShloMosaic.Init

@[expose] public section

noncomputable section

namespace Cert.Proof

open Idealize.ShloMosaic Idealize.SL.Sem Cert.Kernel

/-- The whole kernel and the reference, from the same four arguments, end with the same codes and the same scales, bit for
    bit; of the first result the predicate selects no entry. -/
theorem bitexact : Cert.bitexact_Kernel_Reference_on_codes_and_scales (hKernel := Cert.Kernel.Gen.facts)
    (hReference := Cert.Reference.Gen.facts) (hOn_codes_and_scales := Cert.On_codes_and_scales.Gen.facts) := by
  intro m g m' g' _ hargs
  refine ⟨fun c => Cert.Kernel.Gen.W4 m g c (Idealize.ShloMosaic.Proc.devRef .tc main_v3), fun c => Cert.KernelValue.codes m c,
    fun c => Cert.KernelValue.scales m c, ?_, ?_⟩
  · exact (θ_run _ _ _).mono (fun _ h c =>
      ⟨fun i _ => congrFun (h c).1 i, fun i _ => congrFun (h c).2.1 i, fun i _ => congrFun (h c).2.2.1 i, (h c).2.2.2⟩)
      (Cert.KernelValue.run m g)
  · refine (θ_run _ _ _).mono (fun _ h c =>
      ⟨fun i e => absurd (show (0#1 : BitVec 1) = 1#1 from e) (by decide), fun i _ => congrFun ((h c).2.1.trans ?_) i,
        fun i _ => congrFun ((h c).2.2.1.trans ?_) i, (h c).2.2.2⟩) (Cert.ReferenceValue.run m' g')
    · rw [(hargs c).1, (hargs c).2.1, (hargs c).2.2.1, (hargs c).2.2.2]
    · rw [(hargs c).1, (hargs c).2.1, (hargs c).2.2.1, (hargs c).2.2.2]

/-- The quantising call by itself and its reference, from the same argument, end with the same codes and the same scales in
    both layouts, bit for bit. -/
theorem quantise : Cert.bitexact_QuantiseCall_QuantiseReference (hQuantiseCall := Cert.QuantiseCall.Gen.facts)
    (hQuantiseReference := Cert.QuantiseReference.Gen.facts) := by
  intro m g m' g' _ hargs
  refine ⟨fun c => Cert.QuantiseReferenceValue.G1 (F := Idealize.ShloMosaic.Bits) (Cert.QuantiseCallValue.arg m c),
    fun c => Cert.QuantiseReferenceValue.G2 (F := Idealize.ShloMosaic.Bits) (Cert.QuantiseCallValue.arg m c),
    fun c => Cert.QuantiseReferenceValue.G3 (F := Idealize.ShloMosaic.Bits) (Cert.QuantiseCallValue.arg m c),
    Cert.QuantiseCallValue.run m g, ?_⟩
  refine (θ_run _ _ _).mono (fun _ h c => ⟨(h c).1.trans ?_, (h c).2.1.trans ?_, (h c).2.2.1.trans ?_, (h c).2.2.2⟩)
    (Cert.QuantiseReferenceValue.run m' g')
  · rw [hargs c]
  · rw [hargs c]
  · rw [hargs c]

/-- The projection and its reference, over the extended reals and from the same five arguments, end with the same result. -/
theorem algebraic : Cert.algebraic_ProjectIdeal_ProjectReferenceIdeal (hProjectIdeal := Cert.ProjectIdeal.Gen.facts)
    (hProjectReferenceIdeal := Cert.ProjectReferenceIdeal.Gen.facts) := by
  intro m g m' g' _ hargs
  refine ⟨fun c => Cert.ProjectIdeal.ProjectValue.whole m c, Cert.ProjectIdeal.ProjectValue.run m g, ?_⟩
  refine (θ_run _ _ _).mono (fun _ h c => ⟨(h c).1.trans ?_, (h c).2⟩) (Cert.ProjectReferenceIdeal.Value.run m' g')
  rw [(hargs c).1, (hargs c).2.1, (hargs c).2.2.1, (hargs c).2.2.2.1, (hargs c).2.2.2.2]

/-- The claims of the certificate. -/
theorem claim : Cert.Claim :=
  ⟨Cert.Kernel.Gen.facts, Cert.Reference.Gen.facts, Cert.QuantiseCall.Gen.facts, Cert.QuantiseReference.Gen.facts, Cert.Project.Gen.facts, Cert.ProjectIdeal.Gen.facts, Cert.ProjectReferenceIdeal.Gen.facts,
    Cert.On_codes_and_scales.Gen.facts,
    fun m ρ _ => Cert.Kernel.Gen.frame m ρ,
    fun m ρ _ => Cert.Reference.Gen.frame m ρ,
    fun m ρ _ => Cert.QuantiseCall.Gen.frame m ρ,
    fun m ρ _ => Cert.QuantiseReference.Gen.frame m ρ,
    fun m ρ _ => Cert.Project.Gen.frame m ρ,
    fun m ρ _ => Cert.ProjectIdeal.Gen.frame m ρ,
    fun m ρ _ => Cert.ProjectReferenceIdeal.Gen.frame m ρ,
    bitexact, quantise, trivial, algebraic⟩

end Cert.Proof

end
